-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_of_edges [hPre_clear_of_edges : Cert.Pre_clear_of_edges.Facts] (m : (ℓ : Loc Cert.KernelIdeal.nD Cert.KernelIdeal.τ Cert.KernelIdeal.sig) → Buf (Elt Ideal) ℓ) : Prop :=
  ∀ c : Dev Cert.KernelIdeal.nD,
    (Cert.Pre_clear_of_edges.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_of_edges [hPre_clear_of_edges : Cert.Pre_clear_of_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_of_edges.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_clear_of_edges [hKernelIdeal : Cert.KernelIdeal.Facts] [hPre_clear_of_edges : Cert.Pre_clear_of_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_of_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_clear_of_edges [hReferenceIdeal : Cert.ReferenceIdeal.Facts] [hPre_clear_of_edges : Cert.Pre_clear_of_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_of_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_clear_of_edges [hKernelIdeal : Cert.KernelIdeal.Facts] [hReferenceIdeal : Cert.ReferenceIdeal.Facts] [hPre_clear_of_edges : Cert.Pre_clear_of_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_of_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_clear_of_edges : Cert.Pre_clear_of_edges.Facts),
    quiescent_Kernel (hKernel := hKernel)
    ∧ quiescent_KernelIdeal (hKernelIdeal := hKernelIdeal)
    ∧ quiescent_KernelIdeal_pre_clear_of_edges (hKernelIdeal := hKernelIdeal) (hPre_clear_of_edges := hPre_clear_of_edges)
    ∧ quiescent_ReferenceIdeal (hReferenceIdeal := hReferenceIdeal)
    ∧ quiescent_ReferenceIdeal_pre_clear_of_edges (hReferenceIdeal := hReferenceIdeal) (hPre_clear_of_edges := hPre_clear_of_edges)
    ∧ preserves_Kernel_KernelIdeal
    ∧ algebraic_KernelIdeal_ReferenceIdeal_pre_clear_of_edges (hKernelIdeal := hKernelIdeal) (hReferenceIdeal := hReferenceIdeal) (hPre_clear_of_edges := hPre_clear_of_edges)
-- ==== Pre_clear_of_edges.lean ====
abbrev S16x1x512x512 : Shape := ⟨4, ![16, 1, 512, 512]⟩
abbrev S16x512x512 : Shape := ⟨3, ![16, 512, 512]⟩
abbrev S_ : Shape := ⟨0, ![]⟩
abbrev S16x514x514 : Shape := ⟨3, ![16, 514, 514]⟩

class Facts : Prop where
  shapeCasts_S16x1x512x512_S16x512x512 : S16x1x512x512.ShapeCasts S16x512x512
  pads_S16x512x512_S16x514x514_000_110_110 : S16x512x512.Pads (![0, 1, 1] : Fin 3 → Nat) ![0, 1, 1] ![0, 0, 0] S16x514x514
  h_S_ : 0 < S_.numel
  bcast_S_S16x512x512 : S_.BroadcastsInDim S16x512x512 (![] : Fin 0 → Fin S16x512x512.rank)
  slices_S16x514x514_S16x512x512_0_0_0 : S16x514x514.Slices ![0, 0, 0] S16x512x512
  slices_S16x514x514_S16x512x512_0_0_1 : S16x514x514.Slices ![0, 0, 1] S16x512x512
  slices_S16x514x514_S16x512x512_0_0_2 : S16x514x514.Slices ![0, 0, 2] S16x512x512
  slices_S16x514x514_S16x512x512_0_1_0 : S16x514x514.Slices ![0, 1, 0] S16x512x512
  slices_S16x514x514_S16x512x512_0_1_1 : S16x514x514.Slices ![0, 1, 1] S16x512x512
  slices_S16x514x514_S16x512x512_0_1_2 : S16x514x514.Slices ![0, 1, 2] S16x512x512
  slices_S16x514x514_S16x512x512_0_2_0 : S16x514x514.Slices ![0, 2, 0] S16x512x512
  slices_S16x514x514_S16x512x512_0_2_1 : S16x514x514.Slices ![0, 2, 1] S16x512x512
  slices_S16x514x514_S16x512x512_0_2_2 : S16x514x514.Slices ![0, 2, 2] S16x512x512

variable [Facts]

def fn_pad {F : FTy → Type} [FloatOps F] (arg0 : FVec F S16x512x512 .f32) (arg1 : IVec S_ 32) : FVec F S16x514x514 .f32 :=
  let v0 : FVec F S_ .f32 := sitofp .f32 arg1
  let v1 : FVec F S16x514x514 .f32 := (fun x v => pad S16x514x514 ![0, 1, 1] ![0, 1, 1] ![0, 0, 0] x v pads_S16x512x512_S16x514x514_000_110_110 h_S_) arg0 v0
  v1

def fn_part4 {F : FTy → Type} [FloatOps F] (main_arg0 : FVec F S16x1x512x512 .f32) (main_v63 : FVec F S16x512x512 .f32) (main_v66 : FVec F S16x512x512 .f32) (main_v70 : FVec F S16x512x512 .f32) (main_v71 : FVec F S16x512x512 .f32) : IVec S16x512x512 1 :=
  let main_v72 : FVec F S16x512x512 .f32 := mulf main_v70 main_v71
  let main_v73 : FVec F S16x512x512 .f32 := Host.floor main_v72
  let main_v74 : FVec F S16x512x512 .f32 := subf main_v72 main_v73
  let main_v75 : FVec F S16x512x512 .f32 := Host.ceil main_v72
  let main_v76 : FVec F S16x512x512 .f32 := subf main_v75 main_v72
  let main_v77 : FVec F S16x512x512 .f32 := minimumf main_v74 main_v76
  let main_cst_22 : FVec F S_ .f32 := constant S_ .f32 0x00000000#32
  let main_v78 : FVec F S16x512x512 .f32 := broadcastInDim S16x512x512 ![] bcast_S_S16x512x512 main_cst_22
  let main_v79 : IVec S16x512x512 1 := cmpf .oeq main_v63 main_v78
  let main_cst_23 : FVec F S_ .f32 := constant S_ .f32 0x00000000#32
  let main_v80 : FVec F S16x512x512 .f32 := broadcastInDim S16x512x512 ![] bcast_S_S16x512x512 main_cst_23
  let main_v81 : IVec S16x512x512 1 := cmpf .oeq main_v66 main_v80
  let main_v82 : IVec S16x512x512 1 := ori main_v79 main_v81
  let main_cst_24 : FVec F S_ .f32 := constant S_ .f32 0x33800000#32
  let main_v83 : FVec F S16x512x512 .f32 := broadcastInDim S16x512x512 ![] bcast_S_S16x512x512 main_cst_24
  let main_v84 : IVec S16x512x512 1 := cmpf .oge main_v77 main_v83
  let main_v85 : IVec S16x512x512 1 := ori main_v82 main_v84
  let main_v86 : FVec F S16x512x512 .f32 := shapeCast S16x512x512 main_arg0 shapeCasts_S16x1x512x512_S16x512x512
  let main_v87 : FVec F S16x512x512 .f32 := Host.absf main_v86
  let main_cst_25 : FVec F S_ .f32 := constant S_ .f32 0x7F800000#32
  let main_v88 : FVec F S16x512x512 .f32 := broadcastInDim S16x512x512 ![] bcast_S_S16x512x512 main_cst_25
  let main_v89 : IVec S16x512x512 1 := cmpf .olt main_v87 main_v88
  let main_v90 : IVec S16x512x512 1 := andi main_v89 main_v85
  main_v90

def fn_part3 {F : FTy → Type} [FloatOps F] (main_arg0 : FVec F S16x1x512x512 .f32) (main_v1 : FVec F S16x514x514 .f32) (main_v49 : FVec F S16x512x512 .f32) (main_v52 : FVec F S16x512x512 .f32) (main_v53 : FVec F S16x512x512 .f32) (main_cst_15 : FVec F S_ .f32) : IVec S16x512x512 1 :=
  let main_v54 : FVec F S16x512x512 .f32 := broadcastInDim S16x512x512 ![] bcast_S_S16x512x512 main_cst_15
  let main_v55 : FVec F S16x512x512 .f32 := mulf main_v54 main_v53
  let main_v56 : FVec F S16x512x512 .f32 := addf main_v49 main_v55
  let main_cst_16 : FVec F S_ .f32 := constant S_ .f32 0xC0000000#32
  let main_v57 : FVec F S16x512x512 .f32 := broadcastInDim S16x512x512 ![] bcast_S_S16x512x512 main_cst_16
  let main_v58 : FVec F S16x512x512 .f32 := mulf main_v57 main_v53
  let main_v59 : FVec F S16x512x512 .f32 := addf main_v52 main_v58
  let main_v60 : FVec F S16x512x512 .f32 := (extractStridedSlice S16x512x512 ![0, 2, 2] · slices_S16x514x514_S16x512x512_0_2_2) main_v1
  let main_cst_17 : FVec F S_ .f32 := constant S_ .f32 0xBF800000#32
  let main_v61 : FVec F S16x512x512 .f32 := broadcastInDim S16x512x512 ![] bcast_S_S16x512x512 main_cst_17
  let main_v62 : FVec F S16x512x512 .f32 := mulf main_v61 main_v60
  let main_v63 : FVec F S16x512x512 .f32 := addf main_v56 main_v62
  let main_cst_18 : FVec F S_ .f32 := constant S_ .f32 0xBF800000#32
  let main_v64 : FVec F S16x512x512 .f32 := broadcastInDim S16x512x512 ![] bcast_S_S16x512x512 main_cst_18
  let main_v65 : FVec F S16x512x512 .f32 := mulf main_v64 main_v60
  let main_v66 : FVec F S16x512x512 .f32 := addf main_v59 main_v65
  let main_v67 : FVec F S16x512x512 .f32 := Host.atan2 main_v63 main_v66
  let main_cst_19 : FVec F S_ .f32 := constant S_ .f32 0x00000000#32
  let main_cst_20 : FVec F S_ .f32 := constant S_ .f32 0xBF800000#32
  let main_v68 : FVec F S_ .f32 := Host.atan2 main_cst_19 main_cst_20
  let main_v69 : FVec F S16x512x512 .f32 := broadcastInDim S16x512x512 ![] bcast_S_S16x512x512 main_v68
  let main_v70 : FVec F S16x512x512 .f32 := Host.divf main_v67 main_v69
  let main_cst_21 : FVec F S_ .f32 := constant S_ .f32 0x41200000#32
  let main_v71 : FVec F S16x512x512 .f32 := broadcastInDim S16x512x512 ![] bcast_S_S16x512x512 main_cst_21
  fn_part4 (F := F) main_arg0 main_v63 main_v66 main_v70 main_v71

def fn_part2 {F : FTy → Type} [FloatOps F] (main_arg0 : FVec F S16x1x512x512 .f32) (main_v1 : FVec F S16x514x514 .f32) (main_v31 : FVec F S16x512x512 .f32) (main_v32 : FVec F S16x512x512 .f32) (main_v35 : FVec F S16x512x512 .f32) : IVec S16x512x512 1 :=
  let main_cst_10 : FVec F S_ .f32 := constant S_ .f32 0x00000000#32
  let main_v36 : FVec F S16x512x512 .f32 := broadcastInDim S16x512x512 ![] bcast_S_S16x512x512 main_cst_10
  let main_v37 : FVec F S16x512x512 .f32 := mulf main_v36 main_v32
  let main_v38 : FVec F S16x512x512 .f32 := addf main_v31 main_v37
  let main_v39 : FVec F S16x512x512 .f32 := (extractStridedSlice S16x512x512 ![0, 1, 2] · slices_S16x514x514_S16x512x512_0_1_2) main_v1
  let main_cst_11 : FVec F S_ .f32 := constant S_ .f32 0xC0000000#32
  let main_v40 : FVec F S16x512x512 .f32 := broadcastInDim S16x512x512 ![] bcast_S_S16x512x512 main_cst_11
  let main_v41 : FVec F S16x512x512 .f32 := mulf main_v40 main_v39
  let main_v42 : FVec F S16x512x512 .f32 := addf main_v35 main_v41
  let main_cst_12 : FVec F S_ .f32 := constant S_ .f32 0x00000000#32
  let main_v43 : FVec F S16x512x512 .f32 := broadcastInDim S16x512x512 ![] bcast_S_S16x512x512 main_cst_12
  let main_v44 : FVec F S16x512x512 .f32 := mulf main_v43 main_v39
  let main_v45 : FVec F S16x512x512 .f32 := addf main_v38 main_v44
  let main_v46 : FVec F S16x512x512 .f32 := (extractStridedSlice S16x512x512 ![0, 2, 0] · slices_S16x514x514_S16x512x512_0_2_0) main_v1
  let main_cst_13 : FVec F S_ .f32 := constant S_ .f32 0x3F800000#32
  let main_v47 : FVec F S16x512x512 .f32 := broadcastInDim S16x512x512 ![] bcast_S_S16x512x512 main_cst_13
  let main_v48 : FVec F S16x512x512 .f32 := mulf main_v47 main_v46
  let main_v49 : FVec F S16x512x512 .f32 := addf main_v42 main_v48
  let main_cst_14 : FVec F S_ .f32 := constant S_ .f32 0xBF800000#32
  let main_v50 : FVec F S16x512x512 .f32 := broadcastInDim S16x512x512 ![] bcast_S_S16x512x512 main_cst_14
  let main_v51 : FVec F S16x512x512 .f32 := mulf main_v50 main_v46
  let main_v52 : FVec F S16x512x512 .f32 := addf main_v45 main_v51
  let main_v53 : FVec F S16x512x512 .f32 := (extractStridedSlice S16x512x512 ![0, 2, 1] · slices_S16x514x514_S16x512x512_0_2_1) main_v1
  let main_cst_15 : FVec F S_ .f32 := constant S_ .f32 0x00000000#32
  fn_part3 (F := F) main_arg0 main_v1 main_v49 main_v52 main_v53 main_cst_15

def fn_part1 {F : FTy → Type} [FloatOps F] (main_arg0 : FVec F S16x1x512x512 .f32) (main_v1 : FVec F S16x514x514 .f32) (main_v10 : FVec F S16x512x512 .f32) (main_v14 : FVec F S16x512x512 .f32) (main_v16 : FVec F S16x512x512 .f32) : IVec S16x512x512 1 :=
  let main_v17 : FVec F S16x512x512 .f32 := addf main_v10 main_v16
  let main_v18 : FVec F S16x512x512 .f32 := (extractStridedSlice S16x512x512 ![0, 0, 2] · slices_S16x514x514_S16x512x512_0_0_2) main_v1
  let main_cst_5 : FVec F S_ .f32 := constant S_ .f32 0xBF800000#32
  let main_v19 : FVec F S16x512x512 .f32 := broadcastInDim S16x512x512 ![] bcast_S_S16x512x512 main_cst_5
  let main_v20 : FVec F S16x512x512 .f32 := mulf main_v19 main_v18
  let main_v21 : FVec F S16x512x512 .f32 := addf main_v14 main_v20
  let main_cst_6 : FVec F S_ .f32 := constant S_ .f32 0x3F800000#32
  let main_v22 : FVec F S16x512x512 .f32 := broadcastInDim S16x512x512 ![] bcast_S_S16x512x512 main_cst_6
  let main_v23 : FVec F S16x512x512 .f32 := mulf main_v22 main_v18
  let main_v24 : FVec F S16x512x512 .f32 := addf main_v17 main_v23
  let main_v25 : FVec F S16x512x512 .f32 := (extractStridedSlice S16x512x512 ![0, 1, 0] · slices_S16x514x514_S16x512x512_0_1_0) main_v1
  let main_cst_7 : FVec F S_ .f32 := constant S_ .f32 0x40000000#32
  let main_v26 : FVec F S16x512x512 .f32 := broadcastInDim S16x512x512 ![] bcast_S_S16x512x512 main_cst_7
  let main_v27 : FVec F S16x512x512 .f32 := mulf main_v26 main_v25
  let main_v28 : FVec F S16x512x512 .f32 := addf main_v21 main_v27
  let main_cst_8 : FVec F S_ .f32 := constant S_ .f32 0x00000000#32
  let main_v29 : FVec F S16x512x512 .f32 := broadcastInDim S16x512x512 ![] bcast_S_S16x512x512 main_cst_8
  let main_v30 : FVec F S16x512x512 .f32 := mulf main_v29 main_v25
  let main_v31 : FVec F S16x512x512 .f32 := addf main_v24 main_v30
  let main_v32 : FVec F S16x512x512 .f32 := (extractStridedSlice S16x512x512 ![0, 1, 1] · slices_S16x514x514_S16x512x512_0_1_1) main_v1
  let main_cst_9 : FVec F S_ .f32 := constant S_ .f32 0x00000000#32
  let main_v33 : FVec F S16x512x512 .f32 := broadcastInDim S16x512x512 ![] bcast_S_S16x512x512 main_cst_9
  let main_v34 : FVec F S16x512x512 .f32 := mulf main_v33 main_v32
  let main_v35 : FVec F S16x512x512 .f32 := addf main_v28 main_v34
  fn_part2 (F := F) main_arg0 main_v1 main_v31 main_v32 main_v35

def fn {F : FTy → Type} [FloatOps F] (main_arg0 : FVec F S16x1x512x512 .f32) : IVec S16x512x512 1 :=
  let main_v0 : FVec F S16x512x512 .f32 := shapeCast S16x512x512 main_arg0 shapeCasts_S16x1x512x512_S16x512x512
  let main_c : IVec S_ 32 := constantI S_ 32 0#32
  let main_v1 : FVec F S16x514x514 .f32 := fn_pad (F := F) main_v0 main_c
  let main_cst : FVec F S_ .f32 := constant S_ .f32 0x00000000#32
  let main_v2 : FVec F S16x512x512 .f32 := broadcastInDim S16x512x512 ![] bcast_S_S16x512x512 main_cst
  let main_cst_0 : FVec F S_ .f32 := constant S_ .f32 0x00000000#32
  let main_v3 : FVec F S16x512x512 .f32 := broadcastInDim S16x512x512 ![] bcast_S_S16x512x512 main_cst_0
  let main_v4 : FVec F S16x512x512 .f32 := (extractStridedSlice S16x512x512 ![0, 0, 0] · slices_S16x514x514_S16x512x512_0_0_0) main_v1
  let main_cst_1 : FVec F S_ .f32 := constant S_ .f32 0x3F800000#32
  let main_v5 : FVec F S16x512x512 .f32 := broadcastInDim S16x512x512 ![] bcast_S_S16x512x512 main_cst_1
  let main_v6 : FVec F S16x512x512 .f32 := mulf main_v5 main_v4
  let main_v7 : FVec F S16x512x512 .f32 := addf main_v2 main_v6
  let main_cst_2 : FVec F S_ .f32 := constant S_ .f32 0x3F800000#32
  let main_v8 : FVec F S16x512x512 .f32 := broadcastInDim S16x512x512 ![] bcast_S_S16x512x512 main_cst_2
  let main_v9 : FVec F S16x512x512 .f32 := mulf main_v8 main_v4
  let main_v10 : FVec F S16x512x512 .f32 := addf main_v3 main_v9
  let main_v11 : FVec F S16x512x512 .f32 := (extractStridedSlice S16x512x512 ![0, 0, 1] · slices_S16x514x514_S16x512x512_0_0_1) main_v1
  let main_cst_3 : FVec F S_ .f32 := constant S_ .f32 0x00000000#32
  let main_v12 : FVec F S16x512x512 .f32 := broadcastInDim S16x512x512 ![] bcast_S_S16x512x512 main_cst_3
  let main_v13 : FVec F S16x512x512 .f32 := mulf main_v12 main_v11
  let main_v14 : FVec F S16x512x512 .f32 := addf main_v7 main_v13
  let main_cst_4 : FVec F S_ .f32 := constant S_ .f32 0x40000000#32
  let main_v15 : FVec F S16x512x512 .f32 := broadcastInDim S16x512x512 ![] bcast_S_S16x512x512 main_cst_4
  let main_v16 : FVec F S16x512x512 .f32 := mulf main_v15 main_v11
  fn_part1 (F := F) main_arg0 main_v1 main_v10 main_v14 main_v16
-- ==== Kernel.lean ====
abbrev S16x1x512x512 : Shape := ⟨4, ![16, 1, 512, 512]⟩
abbrev S16x512x512 : Shape := ⟨3, ![16, 512, 512]⟩
abbrev S64x512 : Shape := ⟨2, ![64, 512]⟩
abbrev S_ : Shape := ⟨0, ![]⟩
abbrev S512x64 : Shape := ⟨2, ![512, 64]⟩
abbrev S16x10x64x64 : Shape := ⟨4, ![16, 10, 64, 64]⟩
abbrev S4x512x512 : Shape := ⟨3, ![4, 512, 512]⟩
abbrev S4x10x64x64 : Shape := ⟨4, ![4, 10, 64, 64]⟩
abbrev S1x512x512 : Shape := ⟨3, ![1, 512, 512]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S64x64 : Shape := ⟨2, ![64, 64]⟩
abbrev S1x1x64x64 : Shape := ⟨4, ![1, 1, 64, 64]⟩

abbrev nBuf : Space → Nat
  | .hbm => 32
  | .vmem => 7
  | .smem => 0
  | _ => 0

abbrev bufTy : (tb : Table) → Fin (tcTables nBuf tb) → BufTy
  | .hbm, ⟨0, _⟩ => ⟨S16x1x512x512, .f32⟩
  | .hbm, ⟨1, _⟩ => ⟨S16x512x512, .f32⟩
  | .hbm, ⟨2, _⟩ => ⟨S64x512, .i32⟩
  | .hbm, ⟨3, _⟩ => ⟨S64x512, .i32⟩
  | .hbm, ⟨4, _⟩ => ⟨S_, .i32⟩
  | .hbm, ⟨5, _⟩ => ⟨S_, .i32⟩
  | .hbm, ⟨6, _⟩ => ⟨S64x512, .i32⟩
  | .hbm, ⟨7, _⟩ => ⟨S64x512, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i1⟩
  | .hbm, ⟨12, _⟩ => ⟨S64x512, .i32⟩
  | .hbm, ⟨13, _⟩ => ⟨S64x512, .i32⟩
  | .hbm, ⟨14, _⟩ => ⟨S_, .i32⟩
  | .hbm, ⟨15, _⟩ => ⟨S64x512, .i32⟩
  | .hbm, ⟨16, _⟩ => ⟨S64x512, .i1⟩
  | .hbm, ⟨17, _⟩ => ⟨S64x512, .i1⟩
  | .hbm, ⟨18, _⟩ => ⟨S_, .i32⟩
  | .hbm, ⟨19, _⟩ => ⟨S64x512, .i32⟩
  | .hbm, ⟨20, _⟩ => ⟨S64x512, .i32⟩
  | .hbm, ⟨21, _⟩ => ⟨S64x512, .i32⟩
  | .hbm, ⟨22, _⟩ => ⟨S64x512, .i1⟩
  | .hbm, ⟨23, _⟩ => ⟨S_, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S64x512, .bf16⟩
  | .hbm, ⟨30, _⟩ => ⟨S512x64, .f32⟩
  | .hbm, ⟨31, _⟩ => ⟨S16x10x64x64, .f32⟩
  | .local _ .vmem, ⟨0, _⟩ => ⟨S4x512x512, .f32⟩
  | .local _ .vmem, ⟨1, _⟩ => ⟨S4x512x512, .f32⟩
  | .local _ .vmem, ⟨2, _⟩ => ⟨S64x512, .f32⟩
  | .local _ .vmem, ⟨3, _⟩ => ⟨S64x512, .bf16⟩
  | .local _ .vmem, ⟨4, _⟩ => ⟨S512x64, .f32⟩
  | .local _ .vmem, ⟨5, _⟩ => ⟨S4x10x64x64, .f32⟩
  | .local _ .vmem, ⟨6, _⟩ => ⟨S4x10x64x64, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x10x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x512x512 : Shape := ⟨4, ![16, 1, 512, 512]⟩
abbrev S16x512x512 : Shape := ⟨3, ![16, 512, 512]⟩
abbrev S_ : Shape := ⟨0, ![]⟩
abbrev S16x514x514 : Shape := ⟨3, ![16, 514, 514]⟩
abbrev S16x2x512x512 : Shape := ⟨4, ![16, 2, 512, 512]⟩
abbrev S10 : Shape := ⟨1, ![10]⟩
abbrev S1x10x1x1 : Shape := ⟨4, ![1, 10, 1, 1]⟩
abbrev S16x10x512x512 : Shape := ⟨4, ![16, 10, 512, 512]⟩
abbrev S16x10x64x8x64x8 : Shape := ⟨6, ![16, 10, 64, 8, 64, 8]⟩
abbrev S16x10x64x64 : Shape := ⟨4, ![16, 10, 64, 64]⟩

abbrev nBuf : Space → Nat
  | .hbm => 188
  | .vmem => 0
  | .smem => 0
  | _ => 0

abbrev hbmTy0_0 (i : Nat) : BufTy := match i % 128 with
  | 0 => ⟨S16x1x512x512, .f32⟩
  | 1 => ⟨S16x512x512, .f32⟩
  | 2 => ⟨S_, .i32⟩
  | 3 => ⟨S_, .f32⟩
  | 4 => ⟨S16x514x514, .f32⟩
  | 5 => ⟨S_, .f32⟩
  | 6 => ⟨S16x512x512, .f32⟩
  | 7 => ⟨S_, .f32⟩
  | 8 => ⟨S16x512x512, .f32⟩
  | 9 => ⟨S16x512x512, .f32⟩
  | 10 => ⟨S_, .f32⟩
  | 11 => ⟨S16x512x512, .f32⟩
  | 12 => ⟨S16x512x512, .f32⟩
  | 13 => ⟨S16x512x512, .f32⟩
  | 14 => ⟨S_, .f32⟩
  | 15 => ⟨S16x512x512, .f32⟩
  | 16 => ⟨S16x512x512, .f32⟩
  | 17 => ⟨S16x512x512, .f32⟩
  | 18 => ⟨S16x512x512, .f32⟩
  | 19 => ⟨S_, .f32⟩
  | 20 => ⟨S16x512x512, .f32⟩
  | 21 => ⟨S16x512x512, .f32⟩
  | 22 => ⟨S16x512x512, .f32⟩
  | 23 => ⟨S_, .f32⟩
  | 24 => ⟨S16x512x512, .f32⟩
  | 25 => ⟨S16x512x512, .f32⟩
  | 26 => ⟨S16x512x512, .f32⟩
  | 27 => ⟨S16x512x512, .f32⟩
  | 28 => ⟨S_, .f32⟩
  | 29 => ⟨S16x512x512, .f32⟩
  | 30 => ⟨S16x512x512, .f32⟩
  | 31 => ⟨S16x512x512, .f32⟩
  | 32 => ⟨S_, .f32⟩
  | 33 => ⟨S16x512x512, .f32⟩
  | 34 => ⟨S16x512x512, .f32⟩
  | 35 => ⟨S16x512x512, .f32⟩
  | 36 => ⟨S16x512x512, .f32⟩
  | 37 => ⟨S_, .f32⟩
  | 38 => ⟨S16x512x512, .f32⟩
  | 39 => ⟨S16x512x512, .f32⟩
  | 40 => ⟨S16x512x512, .f32⟩
  | 41 => ⟨S_, .f32⟩
  | 42 => ⟨S16x512x512, .f32⟩
  | 43 => ⟨S16x512x512, .f32⟩
  | 44 => ⟨S16x512x512, .f32⟩
  | 45 => ⟨S16x512x512, .f32⟩
  | 46 => ⟨S_, .f32⟩
  | 47 => ⟨S16x512x512, .f32⟩
  | 48 => ⟨S16x512x512, .f32⟩
  | 49 => ⟨S16x512x512, .f32⟩
  | 50 => ⟨S_, .f32⟩
  | 51 => ⟨S16x512x512, .f32⟩
  | 52 => ⟨S16x512x512, .f32⟩
  | 53 => ⟨S16x512x512, .f32⟩
  | 54 => ⟨S16x512x512, .f32⟩
  | 55 => ⟨S_, .f32⟩
  | 56 => ⟨S16x512x512, .f32⟩
  | 57 => ⟨S16x512x512, .f32⟩
  | 58 => ⟨S16x512x512, .f32⟩
  | 59 => ⟨S_, .f32⟩
  | 60 => ⟨S16x512x512, .f32⟩
  | 61 => ⟨S16x512x512, .f32⟩
  | 62 => ⟨S16x512x512, .f32⟩
  | 63 => ⟨S16x512x512, .f32⟩
  | 64 => ⟨S_, .f32⟩
  | 65 => ⟨S16x512x512, .f32⟩
  | 66 => ⟨S16x512x512, .f32⟩
  | 67 => ⟨S16x512x512, .f32⟩
  | 68 => ⟨S_, .f32⟩
  | 69 => ⟨S16x512x512, .f32⟩
  | 70 => ⟨S16x512x512, .f32⟩
  | 71 => ⟨S16x512x512, .f32⟩
  | 72 => ⟨S16x512x512, .f32⟩
  | 73 => ⟨S_, .f32⟩
  | 74 => ⟨S16x512x512, .f32⟩
  | 75 => ⟨S16x512x512, .f32⟩
  | 76 => ⟨S16x512x512, .f32⟩
  | 77 => ⟨S_, .f32⟩
  | 78 => ⟨S16x512x512, .f32⟩
  | 79 => ⟨S16x512x512, .f32⟩
  | 80 => ⟨S16x512x512, .f32⟩
  | 81 => ⟨S16x512x512, .f32⟩
  | 82 => ⟨S_, .f32⟩
  | 83 => ⟨S16x512x512, .f32⟩
  | 84 => ⟨S16x512x512, .f32⟩
  | 85 => ⟨S16x512x512, .f32⟩
  | 86 => ⟨S_, .f32⟩
  | 87 => ⟨S16x512x512, .f32⟩
  | 88 => ⟨S16x512x512, .f32⟩
  | 89 => ⟨S16x512x512, .f32⟩
  | 90 => ⟨S16x1x512x512, .f32⟩
  | 91 => ⟨S16x1x512x512, .f32⟩
  | 92 => ⟨S16x2x512x512, .f32⟩
  | 93 => ⟨S16x2x512x512, .f32⟩
  | 94 => ⟨S_, .f32⟩
  | 95 => ⟨S16x512x512, .f32⟩
  | 96 => ⟨S16x512x512, .f32⟩
  | 97 => ⟨S16x1x512x512, .f32⟩
  | 98 => ⟨S16x1x512x512, .f32⟩
  | 99 => ⟨S16x512x512, .f32⟩
  | 100 => ⟨S16x1x512x512, .f32⟩
  | 101 => ⟨S16x512x512, .f32⟩
  | 102 => ⟨S16x512x512, .f32⟩
  | 103 => ⟨S_, .f32⟩
  | 104 => ⟨S_, .f32⟩
  | 105 => ⟨S_, .f32⟩
  | 106 => ⟨S16x512x512, .f32⟩
  | 107 => ⟨S16x512x512, .f32⟩
  | 108 => ⟨S_, .f32⟩
  | 109 => ⟨S16x512x512, .f32⟩
  | 110 => ⟨S16x512x512, .f32⟩
  | 111 => ⟨S16x1x512x512, .f32⟩
  | 112 => ⟨S16x1x512x512, .f32⟩
  | 113 => ⟨S16x1x512x512, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x1x512x512, .i32⟩
  | 121 => ⟨S16x1x512x512, .i32⟩
  | 122 => ⟨S_, .i32⟩
  | 123 => ⟨S16x1x512x512, .i32⟩
  | 124 => ⟨S16x1x512x512, .i1⟩
  | 125 => ⟨S_, .i32⟩
  | 126 => ⟨S16x1x512x512, .i32⟩
  | 127 => ⟨S16x1x512x512, .i1⟩
  | _ => ⟨S16x1x512x512, .f32⟩

abbrev hbmTy0_1 (i : Nat) : BufTy := match i % 128 with
  | 0 => ⟨S_, .i32⟩
  | 1 => ⟨S_, .i1⟩
  | 2 => ⟨S16x1x512x512, .i1⟩
  | 3 => ⟨S16x1x512x512, .i1⟩
  | 4 => ⟨S16x1x512x512, .i1⟩
  | 5 => ⟨S16x1x512x512, .i32⟩
  | 6 => ⟨S16x1x512x512, .i32⟩
  | 7 => ⟨S16x1x512x512, .i32⟩
  | 8 => ⟨S16x1x512x512, .f32⟩
  | 9 => ⟨S16x1x512x512, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S16x1x512x512, .i32⟩
  | 17 => ⟨S16x1x512x512, .i32⟩
  | 18 => ⟨S_, .i32⟩
  | 19 => ⟨S16x1x512x512, .i32⟩
  | 20 => ⟨S16x1x512x512, .i1⟩
  | 21 => ⟨S_, .i32⟩
  | 22 => ⟨S16x1x512x512, .i32⟩
  | 23 => ⟨S16x1x512x512, .i1⟩
  | 24 => ⟨S_, .i32⟩
  | 25 => ⟨S_, .i1⟩
  | 26 => ⟨S16x1x512x512, .i1⟩
  | 27 => ⟨S16x1x512x512, .i1⟩
  | 28 => ⟨S16x1x512x512, .i1⟩
  | 29 => ⟨S16x1x512x512, .i32⟩
  | 30 => ⟨S16x1x512x512, .i32⟩
  | 31 => ⟨S16x1x512x512, .i32⟩
  | 32 => ⟨S10, .i32⟩
  | 33 => ⟨S1x10x1x1, .i32⟩
  | 34 => ⟨S16x10x512x512, .i32⟩
  | 35 => ⟨S16x10x512x512, .i32⟩
  | 36 => ⟨S16x10x512x512, .i1⟩
  | 37 => ⟨S_, .f32⟩
  | 38 => ⟨S_, .f32⟩
  | 39 => ⟨S16x10x512x512, .f32⟩
  | 40 => ⟨S16x10x512x512, .f32⟩
  | 41 => ⟨S16x10x512x512, .f32⟩
  | 42 => ⟨S16x10x512x512, .i32⟩
  | 43 => ⟨S16x10x512x512, .i32⟩
  | 44 => ⟨S16x10x512x512, .i1⟩
  | 45 => ⟨S_, .f32⟩
  | 46 => ⟨S16x1x512x512, .f32⟩
  | 47 => ⟨S16x1x512x512, .f32⟩
  | 48 => ⟨S_, .f32⟩
  | 49 => ⟨S_, .f32⟩
  | 50 => ⟨S16x10x512x512, .f32⟩
  | 51 => ⟨S16x10x512x512, .f32⟩
  | 52 => ⟨S16x10x512x512, .f32⟩
  | 53 => ⟨S16x10x512x512, .f32⟩
  | 54 => ⟨S16x10x64x8x64x8, .f32⟩
  | 55 => ⟨S_, .f32⟩
  | 56 => ⟨S16x10x64x64, .f32⟩
  | 57 => ⟨S_, .f32⟩
  | 58 => ⟨S16x10x64x64, .f32⟩
  | 59 => ⟨S16x10x64x64, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_16 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_19 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_20 : Ref sig .tc := ⟨.hbm, 103, rfl⟩
abbrev main_cst_21 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_22 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_23 : Ref sig .tc := ⟨.hbm, 114, rfl⟩
abbrev main_call1_v0 : Ref sig .tc := ⟨.hbm, 115, rfl⟩
abbrev main_call1_c : Ref sig .tc := ⟨.hbm, 116, rfl⟩
abbrev main_call1_v1 : Ref sig .tc := ⟨.hbm, 117, rfl⟩
abbrev main_call1_c_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_c_1 : Ref sig .tc := ⟨.hbm, 122, rfl⟩
abbrev main_call1_v5 : Ref sig .tc := ⟨.hbm, 123, rfl⟩
abbrev main_call1_v6 : Ref sig .tc := ⟨.hbm, 124, rfl⟩
abbrev main_call1_c_2 : Ref sig .tc := ⟨.hbm, 125, rfl⟩
abbrev main_call1_v7 : Ref sig .tc := ⟨.hbm, 126, rfl⟩
abbrev main_call1_v8 : Ref sig .tc := ⟨.hbm, 127, rfl⟩
abbrev main_call1_c_3 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_v12 : Ref sig .tc := ⟨.hbm, 132, rfl⟩
abbrev main_call1_v13 : Ref sig .tc := ⟨.hbm, 133, rfl⟩
abbrev main_call1_v14 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_24 : Ref sig .tc := ⟨.hbm, 138, rfl⟩
abbrev main_call2_v0 : Ref sig .tc := ⟨.hbm, 139, rfl⟩
abbrev main_call2_c : Ref sig .tc := ⟨.hbm, 140, rfl⟩
abbrev main_call2_v1 : Ref sig .tc := ⟨.hbm, 141, rfl⟩
abbrev main_call2_c_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_c_1 : Ref sig .tc := ⟨.hbm, 146, rfl⟩
abbrev main_call2_v5 : Ref sig .tc := ⟨.hbm, 147, rfl⟩
abbrev main_call2_v6 : Ref sig .tc := ⟨.hbm, 148, rfl⟩
abbrev main_call2_c_2 : Ref sig .tc := ⟨.hbm, 149, rfl⟩
abbrev main_call2_v7 : Ref sig .tc := ⟨.hbm, 150, rfl⟩
abbrev main_call2_v8 : Ref sig .tc := ⟨.hbm, 151, rfl⟩
abbrev main_call2_c_3 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_v12 : Ref sig .tc := ⟨.hbm, 156, rfl⟩
abbrev main_call2_v13 : Ref sig .tc := ⟨.hbm, 157, rfl⟩
abbrev main_call2_v14 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_25 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_cst_26 : Ref sig .tc := ⟨.hbm, 173, rfl⟩
abbrev main_v100 : Ref sig .tc := ⟨.hbm, 174, rfl⟩
abbrev main_v101 : Ref sig .tc := ⟨.hbm, 175, rfl⟩
abbrev main_cst_27 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_cst_28 : Ref sig .tc := ⟨.hbm, 183, rfl⟩
abbrev main_v105 : Ref sig .tc := ⟨.hbm, 184, rfl⟩
abbrev main_cst_29 : Ref sig .tc := ⟨.hbm, 185, rfl⟩
abbrev main_v106 : Ref sig .tc := ⟨.hbm, 186, rfl⟩
abbrev main_v107 : Ref sig .tc := ⟨.hbm, 187, rfl⟩

abbrev nD : Nat := 1
abbrev τ : Topo := Topo.v7x

variable {F : FTy → Type} [FloatOps F]
-- ==== Proof.Angle.lean ====
/- The edges of the bins: the binary32 words the kernel compares a gradient's cotangent with, the reals they denote, and
   how near the angle of each is to the bin edge it stands for. Real arithmetic only. Hand-written, untrusted. -/
module

public import Mathlib.Analysis.SpecialFunctions.Trigonometric.Arctan
public import Mathlib.Tactic.IntervalCases

@[expose] public section

namespace Cert.Hog

open Real

/-- The words of the cotangents of the edges 1 to 9 (edge `j` at the angle `j π / 10`), as the kernel holds them. -/
def cotWord : ℕ → BitVec 32
  | 1 => 0x4044F8C4#32
  | 2 => 0x3FB02D48#32
  | 3 => 0x3F39FEB1#32
  | 4 => 0x3EA65BE0#32
  | 5 => 0x248D3132#32
  | 6 => 0xBEA65BE0#32
  | 7 => 0xBF39FEB1#32
  | 8 => 0xBFB02D48#32
  | _ => 0xC044F8C4#32

/-- The real each of those words denotes. -/
noncomputable def cot : ℕ → ℝ
  | 1 => 3227185 / 1048576
  | 2 => 1443241 / 1048576
  | 3 => 12189361 / 16777216
  | 4 => 340703 / 1048576
  | 5 => 4626585 / 75557863725914323419136
  | 6 => -(340703 / 1048576)
  | 7 => -(12189361 / 16777216)
  | 8 => -(1443241 / 1048576)
  | _ => -(3227185 / 1048576)

/-- An angle in radians that is less than `2⁻²⁴` of a bin's width: the bound every edge's error is below. -/
noncomputable def tol : ℝ := π / 10 * (1 / 2 ^ 24)

/-- The sine of a positive number up to one is at most the number. -/
theorem sin_le_self {x : ℝ} (h0 : 0 ≤ x) (h1 : x ≤ 1) : sin x ≤ x := by
  have hb := (abs_le.1 (sin_bound (x := x) (by rwa [abs_of_nonneg h0]))).2
  rw [abs_of_nonneg h0] at hb
  have h2 : x ^ 2 ≤ 1 := pow_le_one₀ h0 h1
  have h3 : x ^ 5 = x ^ 3 * x ^ 2 := by ring
  have h4 : 0 ≤ x ^ 3 := by positivity
  nlinarith

/-- No arctangent of a number between zero and one exceeds the number. -/
theorem arctan_le_self {x : ℝ} (hx : 0 ≤ x) (hx1 : x ≤ 1) : arctan x ≤ x := by
  have t0 : 0 ≤ arctan x := arctan_nonneg.2 hx
  have t1 : arctan x ≤ 1 := by
    have := arctan_mono hx1
    rw [arctan_one] at this
    linarith [pi_le_four]
  have hc : 0 < cos (arctan x) := cos_arctan_pos x
  have hs : sin (arctan x) = x * cos (arctan x) := by
    have := tan_mul_cos hc.ne'
    rwa [tan_arctan, eq_comm] at this
  set t := arctan x
  have hb := (abs_le.1 (sin_bound (x := t) (by rwa [abs_of_nonneg t0]))).1
  have hb' := (abs_le.1 (cos_bound (x := t) (by rwa [abs_of_nonneg t0]))).2
  rw [abs_of_nonneg t0] at hb hb'
  have q2 : t ^ 2 ≤ 1 := pow_le_one₀ t0 t1
  have q3 : 0 ≤ t ^ 3 := by positivity
  have q5 : t ^ 5 = t ^ 3 * t ^ 2 := by ring
  have q5' : t ^ 5 ≤ t ^ 3 := by nlinarith
  have hct : t * cos t ≤ t * (1 - t ^ 2 / 2 + t ^ 4 * (5 / 96)) := mul_le_mul_of_nonneg_left (by linarith) t0
  have hle : t * cos t ≤ x * cos t := by
    rw [← hs]
    have e : t * (1 - t ^ 2 / 2 + t ^ 4 * (5 / 96)) = t - t ^ 3 / 2 + t ^ 5 * (5 / 96) := by ring
    linarith
  exact le_of_mul_le_mul_right hle hc

/-- A decimal below the root of five. -/
theorem sqrt5_lower : (22360679774 / 10000000000 : ℝ) < √5 := by
  apply lt_sqrt_of_sq_lt; norm_num

/-- A decimal above the root of five. -/
theorem sqrt5_upper : √5 < (22360679775 / 10000000000 : ℝ) := by
  rw [sqrt_lt' (by norm_num)]; norm_num

/-- The cosine of two fifths of a half turn. -/
theorem cos_two_fifths : Real.cos (2 * (π / 5)) = (√5 - 1) / 4 := by
  rw [cos_two_mul, cos_pi_div_five]
  have : √5 ^ 2 = 5 := sq_sqrt (by norm_num)
  nlinarith

/-- The bound is at least this rational: a half turn is ten times an angle of sine `(√5 - 1) / 4`. -/
theorem tol_lower : (309 / 1000 / 16777216 : ℝ) < tol := by
  have h1 : sin (π / 10) = (√5 - 1) / 4 := by
    rw [← cos_pi_div_two_sub, ← cos_two_fifths]
    congr 1
    ring
  have h2 := sin_le_self (x := π / 10) (by positivity) (by linarith [pi_le_four])
  have h3 := sqrt5_lower
  unfold tol
  norm_num
  linarith

/-- Two arctangents of positive numbers differ by at most the difference over one plus the product. -/
theorem arctan_sub_le {x y : ℝ} (hy : 0 < y) (hxy : y ≤ x) (hd : x - y ≤ 1) : arctan x - arctan y ≤ (x - y) / (1 + x * y) := by
  have hx : 0 < x := lt_of_lt_of_le hy hxy
  have h1 : x * -y < 1 := by nlinarith
  have h2 := arctan_add h1
  rw [arctan_neg] at h2
  have h3 : (x + -y) / (1 - x * -y) = (x - y) / (1 + x * y) := by ring
  rw [h3] at h2
  have h4 : 0 ≤ (x - y) / (1 + x * y) := div_nonneg (by linarith) (by positivity)
  have h5 := arctan_le_self h4 (by rw [div_le_one (by positivity)]; nlinarith)
  linarith

/-- A positive number `c` close to the tangent of an angle `θ` below a quarter turn has its arctangent within `tol` of
    `θ`; the tangent is known through the cosine `C` of `2 θ`, between two rationals `lo` and `hi`. -/
theorem arctan_near {c lo hi θ C : ℝ} (hθ : 0 < θ) (hθ' : θ < π / 2) (hC : cos (2 * θ) = C) (hc : 0 < c) (hlo : 0 < lo)
    (hhi : 0 < hi) (h1 : lo ^ 2 * (1 + C) < 1 - C) (h2 : 1 - C < hi ^ 2 * (1 + C))
    (h3 : c - lo ≤ 309 / 1000 / 16777216 * (1 + c * lo))
    (h4 : hi - c ≤ 309 / 1000 / 16777216 * (1 + c * lo)) (h5 : hi - lo ≤ 1 / 2) (h6 : |c - lo| ≤ 1 / 2) : |arctan c - θ| < tol := by
  have h7 := abs_le.1 h6
  have hcos : 0 < cos θ := cos_pos_of_mem_Ioo ⟨by linarith, hθ'⟩
  have hT : 0 < tan θ := tan_pos_of_pos_of_lt_pi_div_two hθ hθ'
  have e1 : 1 + C = 2 * cos θ ^ 2 := by rw [← hC, cos_two_mul]; ring
  have e2 : 1 - C = 2 * (tan θ * cos θ) ^ 2 := by
    rw [tan_mul_cos hcos.ne', ← hC, cos_two_mul, sin_sq]; ring
  have hc2 : 0 < cos θ ^ 2 := by positivity
  have l1 : lo < tan θ := by
    have : lo ^ 2 < tan θ ^ 2 := by rw [e1, e2, mul_pow] at h1; nlinarith
    exact lt_of_pow_lt_pow_left₀ 2 hT.le this
  have l2 : tan θ < hi := by
    have : tan θ ^ 2 < hi ^ 2 := by rw [e1, e2, mul_pow] at h2; nlinarith
    exact lt_of_pow_lt_pow_left₀ 2 hhi.le this
  have hθT : θ = arctan (tan θ) := (arctan_tan (by linarith) hθ').symm
  have ht := tol_lower
  have p1 : 0 < 1 + c * tan θ := by positivity
  have p2 : 1 + c * lo ≤ 1 + c * tan θ := by nlinarith
  have key : ∀ d : ℝ, d ≤ 309 / 1000 / 16777216 * (1 + c * lo) → d / (1 + c * tan θ) < tol := by
    intro d hd
    refine lt_of_le_of_lt ?_ ht
    rw [div_le_iff₀ p1]
    nlinarith
  rw [abs_lt]
  rcases le_total (tan θ) c with h | h
  · have := arctan_sub_le hT h (by linarith)
    rw [← hθT] at this
    have k := key (c - tan θ) (by linarith)
    have m : arctan (tan θ) ≤ arctan c := arctan_mono h
    rw [← hθT] at m
    constructor <;> linarith
  · have := arctan_sub_le hc h (by linarith)
    rw [← hθT] at this
    have k := key (tan θ - c) (by linarith)
    rw [mul_comm c] at k
    have m : arctan c ≤ arctan (tan θ) := arctan_mono h
    rw [← hθT] at m
    constructor <;> linarith

/-- The four edges below a quarter turn from their reflections: the arctangent of the kernel's cotangent is within
    `tol` of the complement of the edge's angle. -/
theorem edge_low (j : ℕ) (h1 : 1 ≤ j) (h4 : j ≤ 4) : |arctan (cot j) - (π / 2 - j * π / 10)| < tol := by
  have s1 := sqrt5_lower
  have s2 := sqrt5_upper
  have hp := pi_pos
  interval_cases j
  · refine arctan_near (lo := 30776835367 / 10000000000) (hi := 30776835376 / 10000000000) (C := -((1 + √5) / 4))
      (by norm_num; linarith) (by norm_num; linarith) ?_ ?_ (by norm_num) (by norm_num) ?_ ?_ ?_ ?_ ?_ ?_
    · rw [show 2 * (π / 2 - (1 : ℕ) * π / 10) = π - π / 5 by push_cast; ring, cos_pi_sub, cos_pi_div_five]
    all_goals norm_num [cot, abs_le]
    all_goals linarith
  · refine arctan_near (lo := 13763819204 / 10000000000) (hi := 13763819205 / 10000000000) (C := -((√5 - 1) / 4))
      (by norm_num; linarith) (by norm_num; linarith) ?_ ?_ (by norm_num) (by norm_num) ?_ ?_ ?_ ?_ ?_ ?_
    · rw [show 2 * (π / 2 - (2 : ℕ) * π / 10) = π - 2 * (π / 5) by push_cast; ring, cos_pi_sub, cos_two_fifths]
    all_goals norm_num [cot, abs_le]
    all_goals linarith
  · refine arctan_near (lo := 7265425279 / 10000000000) (hi := 7265425281 / 10000000000) (C := (√5 - 1) / 4)
      (by norm_num; linarith) (by norm_num; linarith) ?_ ?_ (by norm_num) (by norm_num) ?_ ?_ ?_ ?_ ?_ ?_
    · rw [show 2 * (π / 2 - (3 : ℕ) * π / 10) = 2 * (π / 5) by push_cast; ring, cos_two_fifths]
    all_goals norm_num [cot, abs_le]
    all_goals linarith
  · refine arctan_near (lo := 3249196961 / 10000000000) (hi := 3249196963 / 10000000000) (C := (1 + √5) / 4)
      (by norm_num; linarith) (by norm_num; linarith) ?_ ?_ (by norm_num) (by norm_num) ?_ ?_ ?_ ?_ ?_ ?_
    · rw [show 2 * (π / 2 - (4 : ℕ) * π / 10) = π / 5 by push_cast; ring, cos_pi_div_five]
    all_goals norm_num [cot, abs_le]
    all_goals linarith

/-- The cotangents of the edges above five are those below it, negated. -/
theorem cot_reflect (j : ℕ) (h6 : 6 ≤ j) (h9 : j ≤ 9) : cot j = -cot (10 - j) := by
  interval_cases j <;> rfl

/-- Every edge: the arctangent of the kernel's cotangent is within `tol` of the complement of the edge's angle. -/
theorem edge_near (j : ℕ) (h1 : 1 ≤ j) (h9 : j ≤ 9) : |arctan (cot j) - (π / 2 - j * π / 10)| < tol := by
  rcases lt_trichotomy j 5 with h | h | h
  · exact edge_low j h1 (by omega)
  · subst h
    have e : π / 2 - (5 : ℕ) * π / 10 = 0 := by push_cast; ring
    have c0 : (0 : ℝ) < cot 5 := by norm_num [cot]
    have c1 := arctan_le_self c0.le (by norm_num [cot])
    have c2 : 0 < arctan (cot 5) := arctan_pos.2 c0
    have c3 : cot 5 < 309 / 1000 / 16777216 := by norm_num [cot]
    have := tol_lower
    rw [e, sub_zero, abs_of_pos c2]
    linarith
  · have := edge_low (10 - j) (by omega) (by omega)
    rw [cot_reflect j (by omega) h9, arctan_neg]
    rw [Nat.cast_sub (by omega)] at this
    rw [show -arctan (cot (10 - j)) - (π / 2 - j * π / 10)
      = -(arctan (cot (10 - j)) - (π / 2 - ((10 : ℕ) - j) * π / 10)) by push_cast; ring, abs_neg]
    exact this

end Cert.Hog
-- ==== Proof.Body.lean ====
/- The kernel body's 40 stores, image by image: every image's ten bins are the same ten vector expressions of that image's
   pixels, so the body's result is stated once over them. At any number type. Hand-written, untrusted. -/
module

public import proofs.«01_k».proof.Proof.Gen.KernelIdeal.Frame
public import proofs.«01_k».proof.Proof.Angle

@[expose] public section

set_option maxRecDepth 16384

noncomputable section

namespace Cert.Hog

open Cert.KernelIdeal Cert.KernelIdeal.Gen Idealize.ShloMosaic

variable {F : FTy → Type} [FloatOps F]

/-- The number a binary32 word denotes, at every pixel of an image. -/
def fill (w : BitVec 32) : FVec F S512x512 .f32 := broadcast S512x512 (Scalar.ofBits .f32 w)

/-- The gradient along the columns of one image (the numerator of the cotangent is the other one). -/
abbrev gradX (v : Vec F S1x512x512 .f32) : FVec F S512x512 .f32 := k0_pay8 v

/-- The gradient along the rows of one image. -/
abbrev gradY (v : Vec F S1x512x512 .f32) : FVec F S512x512 .f32 := k0_pay9 v

/-- The magnitude of the gradient, one where a component vanishes. -/
abbrev weight (v : Vec F S1x512x512 .f32) : FVec F S512x512 .f32 := k0_pay11 v

/-- The cotangent of the gradient's angle, infinite where the first component vanishes. -/
abbrev slope (v : Vec F S1x512x512 .f32) : FVec F S512x512 .f32 :=
  k0_pay13 (k0_pay10 v) (k0_pay12 v) (Scalar.ofBits .f32 0x7F800000#32)

/-- The pixels whose angle is past edge `j`: their cotangent is at most the edge's. -/
def past (v : Vec F S1x512x512 .f32) (j : ℕ) : IVec S512x512 1 := cmpf .ole (slope v) (fill (cotWord j))

/-- The magnitude at the pixels past edge `j` and zero elsewhere; every pixel is past edge 0. -/
def kept (v : Vec F S1x512x512 .f32) : ℕ → FVec F S512x512 .f32
  | 0 => weight v
  | j + 1 => select (past v (j + 1)) (weight v) (fill 0x00000000#32)

/-- One at the pixels past edge `j` and zero elsewhere. -/
def flag (v : Vec F S1x512x512 .f32) (j : ℕ) : FVec F S512x512 .bf16 :=
  truncf .bf16 (select (past v j) (fill 0x3F800000#32) (fill 0x00000000#32)) bitsLt_bf16_f32

/-- The sum over each cell of 8 by 8 pixels of the magnitudes past edge `j`, by the two products with 0/1 matrices. -/
def sumKept (x1 : Vec F S64x512 .f32) (x3 : Vec F S512x64 .f32) (v : Vec F S1x512x512 .f32) (j : ℕ) : FVec F S64x64 .f32 :=
  matmul dot_S64x512_S512x64_S64x64_1_0_0_1_n_n none
    (matmul dot_S64x512_S512x512_S64x512_1_0_0_1_n_n none (k0_pay14 x1) (kept v j) (constant S64x512 .f32 0x00000000#32))
    (k0_pay16 x3) (constant S64x64 .f32 0x00000000#32)

/-- The number of pixels of each cell past edge `j`, by the same two products. -/
def sumFlag (x2 : Vec F S64x512 .bf16) (x3 : Vec F S512x64 .f32) (v : Vec F S1x512x512 .f32) (j : ℕ) : FVec F S64x64 .f32 :=
  matmul dot_S64x512_S512x64_S64x64_1_0_0_1_n_n none
    (matmul dot_S64x512_S512x512_S64x512_1_0_0_1_n_n none (k0_pay15 x2) (flag v j) (constant S64x512 .f32 0x00000000#32))
    (k0_pay16 x3) (constant S64x64 .f32 0x00000000#32)

/-- A bin's sums over the cells before the division by the cell's 64 pixels, from the sums of the magnitudes (`a`) and the
    numbers of pixels (`s`) past every edge: the magnitudes between the bin's two edges, plus what the bin before passes on. -/
def total (a s : ℕ → FVec F S64x64 .f32) : ℕ → FVec F S64x64 .f32
  | 0 => addf (subf (a 0) (a 1)) (subf (s 9) (a 9))
  | 1 => addf (subf (a 1) (a 2)) (subf (subf (broadcast S64x64 (Scalar.ofBits .f32 0x42800000#32)) (a 0)) (subf (s 1) (a 1)))
  | 9 => addf (subf (a 9) (broadcast S64x64 (Scalar.ofBits .f32 0x00000000#32))) (subf (subf (s 8) (a 8)) (subf (s 9) (a 9)))
  | k + 1 => addf (subf (a (k + 1)) (a (k + 2))) (subf (subf (s k) (a k)) (subf (s (k + 1)) (a (k + 1))))

/-- What the kernel stores for bin `k` of one image. -/
def cell (x1 : Vec F S64x512 .f32) (x2 : Vec F S64x512 .bf16) (x3 : Vec F S512x64 .f32) (v : Vec F S1x512x512 .f32) (k : ℕ) :
    FVec F S1x1x64x64 .f32 :=
  shapeCast S1x1x64x64
    (mulf (total (sumKept x1 x3 v) (sumFlag x2 x3 v) k) (broadcast S64x64 (Scalar.ofBits .f32 0x3C800000#32)))
    shapeCasts_S64x64_S1x1x64x64

/-- The body's forty stores, last first: bin `k` of image `b` is `at'` of that image and `k`. -/
def pieces (at' : Vec F S1x512x512 .f32 → ℕ → FVec F S1x1x64x64 .f32) (w : Fin 4 → Vec F S1x512x512 .f32) :
    List (View.Piece (Elt F) S4x10x64x64 .f32) :=
  [⟨r0_45, at' (w 3) 9⟩, ⟨r0_44, at' (w 3) 8⟩, ⟨r0_43, at' (w 3) 7⟩, ⟨r0_42, at' (w 3) 6⟩, ⟨r0_41, at' (w 3) 5⟩,
    ⟨r0_40, at' (w 3) 4⟩, ⟨r0_39, at' (w 3) 3⟩, ⟨r0_38, at' (w 3) 2⟩, ⟨r0_37, at' (w 3) 1⟩, ⟨r0_36, at' (w 3) 0⟩,
    ⟨r0_34, at' (w 2) 9⟩, ⟨r0_33, at' (w 2) 8⟩, ⟨r0_32, at' (w 2) 7⟩, ⟨r0_31, at' (w 2) 6⟩, ⟨r0_30, at' (w 2) 5⟩,
    ⟨r0_29, at' (w 2) 4⟩, ⟨r0_28, at' (w 2) 3⟩, ⟨r0_27, at' (w 2) 2⟩, ⟨r0_26, at' (w 2) 1⟩, ⟨r0_25, at' (w 2) 0⟩,
    ⟨r0_23, at' (w 1) 9⟩, ⟨r0_22, at' (w 1) 8⟩, ⟨r0_21, at' (w 1) 7⟩, ⟨r0_20, at' (w 1) 6⟩, ⟨r0_19, at' (w 1) 5⟩,
    ⟨r0_18, at' (w 1) 4⟩, ⟨r0_17, at' (w 1) 3⟩, ⟨r0_16, at' (w 1) 2⟩, ⟨r0_15, at' (w 1) 1⟩, ⟨r0_14, at' (w 1) 0⟩,
    ⟨r0_12, at' (w 0) 9⟩, ⟨r0_11, at' (w 0) 8⟩, ⟨r0_10, at' (w 0) 7⟩, ⟨r0_9, at' (w 0) 6⟩, ⟨r0_8, at' (w 0) 5⟩,
    ⟨r0_7, at' (w 0) 4⟩, ⟨r0_6, at' (w 0) 3⟩, ⟨r0_5, at' (w 0) 2⟩, ⟨r0_4, at' (w 0) 1⟩, ⟨r0_3, at' (w 0) 0⟩]

/-- The four images of a block, as the body loads them. -/
def loads (x0 : Vec F S4x512x512 .f32) : Fin 4 → Vec F S1x512x512 .f32
  | 0 => View.ld x0 r0_0
  | 1 => View.ld x0 r0_13
  | 2 => View.ld x0 r0_24
  | 3 => View.ld x0 r0_35

/-- The body's result over its input blocks: bin `k` of image `b` is `cell` of that image, for all 40 pairs. -/
theorem out_eq (x0 : Vec F S4x512x512 .f32) (x1 : Vec F S64x512 .f32) (x2 : Vec F S64x512 .bf16) (x3 : Vec F S512x64 .f32) :
    out0_4 x0 x1 x2 x3 = View.canon (pieces (cell (View.ld x1 r0_1) (View.ld x2 r0_1) (View.ld x3 r0_2)) (loads x0)) := by
  rfl

end Cert.Hog

end
-- ==== Proof.Pixel.lean ====
/- One pixel, over the real numbers: the share of its vote that the reference gives each bin (by the angle of the
   gradient) and the share the kernel gives it (by comparisons of the gradient's cotangent), and that they are equal
   wherever the gradient is clear of the bins' edges. Hand-written, untrusted. -/
module

public import proofs.«01_k».proof.Proof.Angle

@[expose] public section

noncomputable section

namespace Cert.Hog

open Real

/-- The angle of the point `(x, y)` in `(-π, π]`, zero at the origin. -/
def ang (y x : ℝ) : ℝ :=
  if 0 < x then arctan (y / x)
  else if x < 0 then (if 0 ≤ y then arctan (y / x) + π else arctan (y / x) - π)
  else if 0 < y then π / 2 else if y < 0 then -(π / 2) else 0

/-- The gradient's angle counted in bins, ten to a half turn. -/
def binPos (a b : ℝ) : ℝ := ang a b / π * 10

/-- The magnitude of the gradient. -/
def mag (a b : ℝ) : ℝ := √(a * a + b * b)

/-- The gradient is zero, or parallel to an axis, or its angle is at least `2⁻²⁴` of a bin from the edges about it. -/
def Clear (a b : ℝ) : Prop :=
  a = 0 ∨ b = 0 ∨ 1 / 2 ^ 24 ≤ min (binPos a b - ⌊binPos a b⌋) (⌈binPos a b⌉ - binPos a b)

/-- The reference's share of bin `k`: the magnitude in the bin of the rounded-down position, and one minus it in the bin
    of the rounded-up position. -/
def refShare (a b : ℝ) (k : ℕ) : ℝ :=
  (if (k : ℤ) = ⌊binPos a b⌋ % 10 then mag a b else 0) + (if (k : ℤ) = ⌈binPos a b⌉ % 10 then 1 - mag a b else 0)

/-- The kernel's magnitude: one where a component vanishes. -/
def wt (a b : ℝ) : ℝ := if a = 0 ∨ b = 0 then 1 else mag a b

/-- The gradient's angle is past edge `j`, as the kernel decides it; every angle is past edge 0. -/
def IsPast (a b : ℝ) : ℕ → Prop
  | 0 => True
  | j + 1 => a ≠ 0 ∧ b / a ≤ cot (j + 1)

open Classical in
/-- The kernel's magnitude past edge `j`. -/
def keptR (a b : ℝ) (j : ℕ) : ℝ := if IsPast a b j then wt a b else 0

open Classical in
/-- The kernel's flag past edge `j`. -/
def flagR (a b : ℝ) (j : ℕ) : ℝ := if IsPast a b j then 1 else 0

/-- A bin's combination of the magnitudes `a` and the counts `s` past the edges, out of `n` pixels. -/
def totalR (n : ℝ) (a s : ℕ → ℝ) : ℕ → ℝ
  | 0 => (a 0 - a 1) + (s 9 - a 9)
  | 1 => (a 1 - a 2) + ((n - a 0) - (s 1 - a 1))
  | 9 => (a 9 - 0) + ((s 8 - a 8) - (s 9 - a 9))
  | k + 1 => (a (k + 1) - a (k + 2)) + ((s k - a k) - (s (k + 1) - a (k + 1)))

/-- The kernel's share of bin `k` at one pixel. -/
def kerShare (a b : ℝ) (k : ℕ) : ℝ := totalR 1 (keptR a b) (flagR a b) k

/-- A pixel past the edges up to `n` and no further has its magnitude in bin `n` and the rest in the next one around. -/
theorem kerShare_of_past {a b : ℝ} {n : ℕ} (hn : n ≤ 9) (h : ∀ j ≤ 9, IsPast a b j ↔ j ≤ n) {k : ℕ} (hk : k ≤ 9) :
    kerShare a b k = (if k = n then wt a b else 0) + (if k = (n + 1) % 10 then 1 - wt a b else 0) := by
  have hA : ∀ j ≤ 9, keptR a b j = if j ≤ n then wt a b else 0 := fun j hj => by simp only [keptR, h j hj]
  have hS : ∀ j ≤ 9, flagR a b j = if j ≤ n then 1 else 0 := fun j hj => by simp only [flagR, h j hj]
  unfold kerShare
  interval_cases k <;> simp (disch := norm_num) only [totalR, hA, hS] <;>
    interval_cases n <;> norm_num

/-- Away from the axes the angle is a quarter turn less the arctangent of the cotangent, or half a turn less than that. -/
theorem ang_eq {a b : ℝ} (ha : a ≠ 0) (hb : b ≠ 0) :
    ang a b = π / 2 - arctan (b / a) ∨ ang a b = π / 2 - arctan (b / a) - π := by
  have hinv : a / b = (b / a)⁻¹ := (inv_div b a).symm
  unfold ang
  rcases lt_or_gt_of_ne hb with b0 | b0 <;> rcases lt_or_gt_of_ne ha with a0 | a0
  · rw [if_neg (by linarith), if_pos b0, if_neg (by linarith), hinv, arctan_inv_of_pos (div_pos_of_neg_of_neg b0 a0)]
    exact Or.inr rfl
  · rw [if_neg (by linarith), if_pos b0, if_pos a0.le, hinv, arctan_inv_of_neg (div_neg_of_neg_of_pos b0 a0)]
    left; ring
  · rw [if_pos b0, hinv, arctan_inv_of_neg (div_neg_of_pos_of_neg b0 a0)]
    right; ring
  · rw [if_pos b0, hinv, arctan_inv_of_pos (div_pos b0 a0)]
    exact Or.inl rfl

/-- The position, in bins, of an angle between zero and half a turn with the given cotangent. -/
def cotPos (r : ℝ) : ℝ := (π / 2 - arctan r) / π * 10

/-- At a position at least `2⁻²⁴` from the integers about it, comparing with the kernel's cotangent of edge `j` decides
    whether the position is past `j`. -/
theorem le_cot_iff {r : ℝ} (h1 : 1 / 2 ^ 24 ≤ cotPos r - ⌊cotPos r⌋) (h2 : 1 / 2 ^ 24 ≤ (⌊cotPos r⌋ : ℝ) + 1 - cotPos r) {j : ℕ}
    (j1 : 1 ≤ j) (j9 : j ≤ 9) : r ≤ cot j ↔ (j : ℤ) ≤ ⌊cotPos r⌋ := by
  have e := abs_lt.1 (edge_near j j1 j9)
  have hp := pi_pos
  have hr : arctan r = π / 2 - cotPos r * (π / 10) := by
    unfold cotPos; field_simp; ring
  rw [← arctan_strictMono.le_iff_le, hr]
  constructor
  · intro hle
    by_contra hj
    have hj' : (⌊cotPos r⌋ : ℝ) + 1 ≤ j := by exact_mod_cast not_le.1 hj
    have m : (cotPos r + 1 / 2 ^ 24) * (π / 10) ≤ j * (π / 10) := mul_le_mul_of_nonneg_right (by linarith) (by positivity)
    unfold tol at e
    nlinarith [e.2]
  · intro hj
    have hj' : (j : ℝ) ≤ ⌊cotPos r⌋ := by exact_mod_cast hj
    have m : (j + 1 / 2 ^ 24) * (π / 10) ≤ cotPos r * (π / 10) := mul_le_mul_of_nonneg_right (by linarith) (by positivity)
    unfold tol at e
    nlinarith [e.1]

/-- A position in bins away from the axes lies strictly between zero and ten. -/
theorem cotPos_mem (r : ℝ) : 0 < cotPos r ∧ cotPos r < 10 := by
  have h1 := arctan_lt_pi_div_two r
  have h2 := neg_pi_div_two_lt_arctan r
  have hp := pi_pos
  unfold cotPos
  constructor
  · have : 0 < π / 2 - arctan r := by linarith
    positivity
  · have : (π / 2 - arctan r) / π < 1 := by rw [div_lt_one hp]; linarith
    linarith

/-- Off the axes and clear of the edges: the kernel's comparisons find the bin of the rounded-down position, and the
    rounded-up position is in the next bin. -/
theorem past_of_clear {a b : ℝ} (ha : a ≠ 0) (hb : b ≠ 0) (h : Clear a b) :
    ∃ n : ℕ, n ≤ 9 ∧ (∀ j ≤ 9, IsPast a b j ↔ j ≤ n) ∧ ⌊binPos a b⌋ % 10 = n ∧ ⌈binPos a b⌉ % 10 = ((n + 1) % 10 : ℕ) := by
  have hp := pi_pos
  obtain ⟨g1, g2⟩ := le_min_iff.1 ((h.resolve_left ha).resolve_left hb)
  obtain ⟨q0, q10⟩ := cotPos_mem (b / a)
  obtain ⟨s, hs, hsp⟩ : ∃ s : ℤ, (s = 0 ∨ s = 10) ∧ binPos a b = cotPos (b / a) - s := by
    rcases ang_eq ha hb with e | e
    · exact ⟨0, Or.inl rfl, by simp [binPos, cotPos, e]⟩
    · exact ⟨10, Or.inr rfl, by unfold binPos cotPos; rw [e]; field_simp; push_cast; ring⟩
  rw [hsp] at g1 g2 ⊢
  rw [Int.floor_sub_intCast] at g1 ⊢
  rw [Int.ceil_sub_intCast] at g2 ⊢
  set q := cotPos (b / a) with hq
  push_cast at g1 g2
  have hc : ⌈q⌉ = ⌊q⌋ + 1 := by
    rw [Int.ceil_eq_iff]
    have := Int.lt_floor_add_one q
    have t : (0 : ℝ) < 1 / 2 ^ 24 := by positivity
    push_cast
    constructor <;> linarith
  rw [hc] at g2 ⊢
  push_cast at g2
  have f0 : 0 ≤ ⌊q⌋ := Int.floor_nonneg.2 q0.le
  have f9 : ⌊q⌋ < 10 := Int.floor_lt.2 (by exact_mod_cast q10)
  refine ⟨⌊q⌋.toNat, by omega, fun j hj => ?_, ?_, ?_⟩
  · cases j with
    | zero => simp [IsPast]
    | succ j =>
      have := le_cot_iff (r := b / a) (by rw [← hq]; linarith) (by rw [← hq]; linarith) (j := j + 1) (by omega) hj
      simp only [IsPast, ne_eq, ha, not_false_eq_true, true_and, this, ← hq]
      omega
  · rcases hs with rfl | rfl <;> omega
  · rcases hs with rfl | rfl <;> omega

/-- On an axis: the position is a whole number of bins, and the kernel's comparisons find its bin. -/
theorem past_of_axis {a b : ℝ} (h : a = 0 ∨ b = 0) :
    ∃ n : ℕ, n ≤ 9 ∧ (∀ j ≤ 9, IsPast a b j ↔ j ≤ n) ∧ ⌊binPos a b⌋ % 10 = n ∧ ⌈binPos a b⌉ % 10 = n := by
  have hp := pi_pos
  by_cases ha : a = 0
  · obtain ⟨z, hz, hzp⟩ : ∃ z : ℤ, (z = 0 ∨ z = 10) ∧ binPos a b = z := by
      unfold binPos ang
      by_cases b0 : 0 < b
      · exact ⟨0, Or.inl rfl, by simp [ha, b0]⟩
      by_cases b1 : b < 0
      · exact ⟨10, Or.inr rfl, by simp [ha, b0, b1, hp.ne']⟩
      · exact ⟨0, Or.inl rfl, by simp [ha, b0, b1]⟩
    refine ⟨0, by norm_num, fun j _ => ?_, ?_, ?_⟩
    · cases j <;> simp [IsPast, ha]
    all_goals rw [hzp]; rcases hz with rfl | rfl <;> simp only [Int.floor_intCast, Int.ceil_intCast] <;> rfl
  · have hb := h.resolve_left ha
    obtain ⟨z, hz, hzp⟩ : ∃ z : ℤ, (z = 5 ∨ z = -5) ∧ binPos a b = z := by
      unfold binPos ang
      rcases lt_or_gt_of_ne ha with a0 | a0
      · refine ⟨-5, Or.inr rfl, ?_⟩
        simp only [hb, lt_irrefl, if_false, if_neg a0.le.not_gt, if_pos a0]
        push_cast; field_simp; norm_num
      · refine ⟨5, Or.inl rfl, ?_⟩
        simp only [hb, lt_irrefl, if_false, if_pos a0]
        push_cast; field_simp; norm_num
    refine ⟨5, by norm_num, fun j hj => ?_, ?_, ?_⟩
    · interval_cases j <;> norm_num [IsPast, ha, hb, cot]
    all_goals rw [hzp]; rcases hz with rfl | rfl <;> simp only [Int.floor_intCast, Int.ceil_intCast] <;> rfl

/-- THE PIXEL THEOREM: clear of the edges, the kernel's share of every bin is the reference's. -/
theorem share_eq {a b : ℝ} (h : Clear a b) {k : ℕ} (hk : k ≤ 9) : kerShare a b k = refShare a b k := by
  by_cases hx : a = 0 ∨ b = 0
  · obtain ⟨n, hn, hpast, hf, hc⟩ := past_of_axis hx
    rw [kerShare_of_past hn hpast hk, refShare, hf, hc]
    simp only [wt, if_pos hx, Nat.cast_inj]
    split_ifs <;> ring
  · obtain ⟨ha, hb⟩ := not_or.1 hx
    obtain ⟨n, hn, hpast, hf, hc⟩ := past_of_clear ha hb h
    rw [kerShare_of_past hn hpast hk, refShare, hf, hc]
    simp only [wt, if_neg hx, Nat.cast_inj]

end Cert.Hog

end
-- ==== Proof.Sobel.lean ====
/- One image's gradients: the sums of the nine shifted products over the zero-padded image, over the real numbers.
   Hand-written, untrusted. -/
module

public import proofs.«01_k».proof.Proof.Pixel
public import Mathlib.Data.EReal.Operations

@[expose] public section

noncomputable section

namespace Cert.Hog

/-- An image of 512 by 512 pixels with a border of zeros one pixel wide: the pixel `(r, c)` is at `(r + 1, c + 1)`. -/
def padded (f : ℕ → ℕ → ℝ) (r c : ℕ) : ℝ :=
  if (1 ≤ r ∧ r ≤ 512) ∧ 1 ≤ c ∧ c ≤ 512 then f (r - 1) (c - 1) else 0

/-- Inside the border is the image. -/
theorem padded_succ (f : ℕ → ℕ → ℝ) {r c : ℕ} (hr : r < 512) (hc : c < 512) : padded f (r + 1) (c + 1) = f r c := by
  rw [padded, if_pos (by omega)]; rfl

/-- Zero above the image. -/
theorem padded_top (f : ℕ → ℕ → ℝ) (c : ℕ) : padded f 0 c = 0 := if_neg (by omega)

/-- Zero left of the image. -/
theorem padded_left (f : ℕ → ℕ → ℝ) (r : ℕ) : padded f r 0 = 0 := if_neg (by omega)

/-- Zero below the image. -/
theorem padded_bottom (f : ℕ → ℕ → ℝ) {r : ℕ} (hr : 513 ≤ r) (c : ℕ) : padded f r c = 0 := if_neg (by omega)

/-- Zero right of the image. -/
theorem padded_right (f : ℕ → ℕ → ℝ) (r : ℕ) {c : ℕ} (hc : 513 ≤ c) : padded f r c = 0 := if_neg (by omega)

/-- The first gradient at a pixel: the Sobel matrix's. -/
def sobelX (f : ℕ → ℕ → ℝ) (r c : ℕ) : ℝ :=
  padded f r c + 2 * padded f (r + 1) c + padded f (r + 2) c
    - (padded f r (c + 2) + 2 * padded f (r + 1) (c + 2) + padded f (r + 2) (c + 2))

/-- The second gradient at a pixel: the transposed matrix's. -/
def sobelY (f : ℕ → ℕ → ℝ) (r c : ℕ) : ℝ :=
  padded f r c + 2 * padded f r (c + 1) + padded f r (c + 2)
    - (padded f (r + 2) c + 2 * padded f (r + 2) (c + 1) + padded f (r + 2) (c + 2))

/-- The sum of a function of the pixel over the cell `(p, q)` of 8 by 8 pixels. -/
def pool (g : ℕ → ℕ → ℝ) (p q : ℕ) : ℝ := ∑ i : Fin 8, ∑ j : Fin 8, g (8 * p + i) (8 * q + j)

/-- Bin `k` of the cell `(p, q)`: the mean over the cell of the reference's shares. -/
def hog (f : ℕ → ℕ → ℝ) (k p q : ℕ) : ℝ := pool (fun r c => refShare (sobelX f r c) (sobelY f r c) k) p q / 64

/-- A finite sum of reals is the same sum among the extended reals. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert i s hi ih => rw [Finset.sum_insert hi, Finset.sum_insert hi, EReal.coe_add, ih]

/-- The real numbers that the pixels of the images are (zero where there is none). -/
def pix (x : Fin 16 → Fin 512 → Fin 512 → EReal) (n r c : ℕ) : ℝ :=
  if h : n < 16 ∧ r < 512 ∧ c < 512 then (x ⟨n, h.1⟩ ⟨r, h.2.1⟩ ⟨c, h.2.2⟩).toReal else 0

/-- What the precondition says of the images: every pixel is a real number, and no gradient is near a bin's edge. -/
structure Good (x : Fin 16 → Fin 512 → Fin 512 → EReal) : Prop where
  real : ∀ n r c, x n r c = ((pix x n r c : ℝ) : EReal)
  clear : ∀ n < 16, ∀ r < 512, ∀ c < 512, Clear (sobelX (pix x n) r c) (sobelY (pix x n) r c)

/-- A pixel that is neither infinity is the real number `pix` names. -/
theorem pix_eq {x : Fin 16 → Fin 512 → Fin 512 → EReal} {n : Fin 16} {r c : Fin 512} (ht : x n r c ≠ ⊤) (hb : x n r c ≠ ⊥) :
    x n r c = ((pix x n r c : ℝ) : EReal) := by
  rw [pix, dif_pos ⟨n.isLt, r.isLt, c.isLt⟩]
  exact (EReal.coe_toReal ht hb).symm

end Cert.Hog

end
-- ==== Proof.Words.lean ====
/- The numbers that the programs' words denote. Hand-written, untrusted. -/
module

public import proofs.«01_k».proof.Proof.Angle
public import Idealize.ShloMosaic.Lib.Pointwise

@[expose] public section

noncomputable section

namespace Cert.Hog

open Idealize.ShloMosaic

/-- The word of 2. -/
theorem word_two : Ideal.ofBits .f32 0x40000000#32 = ((2 : ℝ) : EReal) := by
  simp [Ideal.ofBits, Ideal.ieee, -EReal.coe_mul]; norm_num

/-- The word of the positive infinity. -/
theorem word_top : Ideal.ofBits .f32 0x7F800000#32 = ⊤ := by
  simp [Ideal.ofBits, Ideal.ieee, -EReal.coe_mul]

/-- The word of 64. -/
theorem word_sixtyFour : Ideal.ofBits .f32 0x42800000#32 = ((64 : ℝ) : EReal) := by
  simp [Ideal.ofBits, Ideal.ieee, -EReal.coe_mul]; norm_num

/-- The word of 1/64. -/
theorem word_inv_sixtyFour : Ideal.ofBits .f32 0x3C800000#32 = ((1 / 64 : ℝ) : EReal) := by
  simp [Ideal.ofBits, Ideal.ieee, -EReal.coe_mul]; norm_num

/-- The words of the edges denote the reals the pixel theorem compares with. -/
theorem word_cot (j : ℕ) (h1 : 1 ≤ j) (h9 : j ≤ 9) : Ideal.ofBits .f32 (cotWord j) = ((cot j : ℝ) : EReal) := by
  interval_cases j <;> simp [cotWord, cot, Ideal.ofBits, Ideal.ieee, -EReal.coe_mul, -EReal.coe_neg] <;> norm_num

/-- The word of −2. -/
theorem word_neg_two : Ideal.ofBits .f32 0xC0000000#32 = ((-2 : ℝ) : EReal) := by
  simp [Ideal.ofBits, Ideal.ieee, -EReal.coe_mul, -EReal.coe_neg]; norm_num

/-- The word of −1. -/
theorem word_neg_one : Ideal.ofBits .f32 0xBF800000#32 = ((-1 : ℝ) : EReal) := by
  simp [Ideal.ofBits, Ideal.ieee, -EReal.coe_mul, -EReal.coe_neg]; norm_num

/-- The word of 10. -/
theorem word_ten : Ideal.ofBits .f32 0x41200000#32 = ((10 : ℝ) : EReal) := by
  simp [Ideal.ofBits, Ideal.ieee, -EReal.coe_mul]; norm_num

/-- The word of the precondition's distance. -/
theorem word_gap : Ideal.ofBits .f32 0x33800000#32 = ((1 / 2 ^ 24 : ℝ) : EReal) := by
  simp [Ideal.ofBits, Ideal.ieee, -EReal.coe_mul]; norm_num

end Cert.Hog

end
-- ==== Proof.KernelPixel.lean ====
/- The kernel's vectors at one pixel, over the extended reals: each is the real number the pixel theorem speaks of.
   Hand-written, untrusted. -/
module

public import proofs.«01_k».proof.Proof.Body
public import proofs.«01_k».proof.Proof.Sobel
public import proofs.«01_k».proof.Proof.Words
public import Idealize.ShloMosaic.Lib.Pointwise

@[expose] public section

set_option maxRecDepth 16384

noncomputable section

namespace Cert.Hog

open Cert.KernelIdeal Cert.KernelIdeal.Gen Idealize.ShloMosaic

variable {v : Vec Ideal S1x512x512 .f32} {f : ℕ → ℕ → ℝ}

/-- The image's pixels are the real numbers `f`. -/
def Holds (v : Vec Ideal S1x512x512 .f32) (f : ℕ → ℕ → ℝ) : Prop := ∀ r c : Fin 512, v (ix3 0 r c) = ((f r c : ℝ) : EReal)

/-! ## The gradients -/

/-- The image as the kernel rounds it, which over the reals changes nothing. -/
theorem image_apply (h : Holds v f) (r c : Fin 512) : k0_pay3 v (ix2 r c) = ((padded f (r + 1) (c + 1) : ℝ) : EReal) := by
  rw [padded_succ f r.isLt c.isLt, ← h r c]
  unfold k0_pay3
  pointwise

/-- The row above: zero above the first row. -/
theorem up_apply (h : Holds v f) (r c : Fin 512) : k0_pay5 v (ix2 r c) = ((padded f r (c + 1) : ℝ) : EReal) := by
  unfold k0_pay5
  pointwise [k0_pay4]
  by_cases h0 : (r : ℕ) < 1
  · rw [dif_pos h0, show (r : ℕ) = 0 by omega, padded_top]; rfl
  · rw [dif_neg h0, image_apply h]
    dsimp only
    rw [show (r : ℕ) - 1 + 1 = r by omega]

/-- The row below: zero below the last row. -/
theorem down_apply (h : Holds v f) (r c : Fin 512) : k0_pay6 v (ix2 r c) = ((padded f (r + 2) (c + 1) : ℝ) : EReal) := by
  unfold k0_pay6
  pointwise [k0_pay4]
  by_cases h0 : (r : ℕ) < 511
  · rw [dif_pos h0, image_apply h]
    dsimp only
    rw [show 1 + (r : ℕ) + 1 = r + 2 by omega]
  · rw [dif_neg h0, padded_bottom f (by omega)]; rfl

/-- The kernel's first gradient is the zero-bordered image's. -/
theorem gradX_apply (h : Holds v f) (r c : Fin 512) : gradX v (ix2 r c) = ((sobelX f r c : ℝ) : EReal) := by
  have key : ∀ c : Fin 512, k0_pay5 v (ix2 r c) + Ideal.ofBits FTy.f32 1073741824#32 * k0_pay3 v (ix2 r c) + k0_pay6 v (ix2 r c)
      = ((padded f r (c + 1) + 2 * padded f (r + 1) (c + 1) + padded f (r + 2) (c + 1) : ℝ) : EReal) := fun c => by
    rw [up_apply h, image_apply h, down_apply h, word_two]; norm_cast
  unfold gradX k0_pay8
  pointwise [k0_pay7]
  simp only [key]
  rw [sobelX, EReal.coe_sub]
  congr 1
  · split_ifs with h0
    · rw [show (c : ℕ) = 0 by omega]; simp [padded_left]
    · rw [show (c : ℕ) - 1 + 1 = c by omega]
  · split_ifs with h0
    · rw [show 1 + (c : ℕ) + 1 = c + 2 by omega]
    · rw [padded_right f _ (by omega), padded_right f _ (by omega), padded_right f _ (by omega)]; simp

/-- The kernel's second gradient is the zero-bordered image's. -/
theorem gradY_apply (h : Holds v f) (r c : Fin 512) : gradY v (ix2 r c) = ((sobelY f r c : ℝ) : EReal) := by
  have key : ∀ c : Fin 512, k0_pay5 v (ix2 r c) - k0_pay6 v (ix2 r c)
      = ((padded f r (c + 1) - padded f (r + 2) (c + 1) : ℝ) : EReal) := fun c => by
    rw [up_apply h, down_apply h]; norm_cast
  have e : sobelY f r c = ((padded f r c - padded f (r + 2) c) + 2 * (padded f r (c + 1) - padded f (r + 2) (c + 1)))
      + (padded f r (c + 2) - padded f (r + 2) (c + 2)) := by unfold sobelY; ring
  unfold gradY k0_pay9
  pointwise [k0_pay7]
  simp only [key, word_two]
  rw [e, EReal.coe_add, EReal.coe_add, EReal.coe_mul]
  congr 2
  · split_ifs with h0
    · rw [show (c : ℕ) = 0 by omega]; simp [padded_left]
    · rw [show (c : ℕ) - 1 + 1 = c by omega]
  · split_ifs with h0
    · rw [show 1 + (c : ℕ) + 1 = c + 2 by omega]
    · rw [padded_right f _ (by omega), padded_right f _ (by omega)]; simp

/-! ## The magnitude and the comparisons -/

/-- The kernel's weight: the magnitude, or one on an axis. -/
theorem weight_apply (h : Holds v f) (r c : Fin 512) :
    weight v (ix2 r c) = ((wt (sobelX f r c) (sobelY f r c) : ℝ) : EReal) := by
  unfold weight k0_pay11
  pointwise [k0_pay10]
  rw [show k0_pay8 v (ix2 r c) = _ from gradX_apply h r c, show k0_pay9 v (ix2 r c) = _ from gradY_apply h r c]
  set a := sobelX f r c
  set b := sobelY f r c
  have hs : ¬ a * a + b * b < 0 := by nlinarith
  by_cases ha : a = 0 <;> by_cases hb : b = 0 <;>
    simp [wt, mag, ha, hb, Scalar.select, IntOp.ori, ← EReal.coe_mul, ← EReal.coe_add, hs]

/-- The kernel's comparison with the cotangent of edge `j`, at one pixel. -/
theorem slope_le_iff (h : Holds v f) (r c : Fin 512) (j : ℕ) (h1 : 1 ≤ j) (h9 : j ≤ 9) :
    slope v (ix2 r c) ≤ Ideal.ofBits .f32 (cotWord j) ↔ IsPast (sobelX f r c) (sobelY f r c) j := by
  rw [word_cot j h1 h9]
  unfold slope k0_pay13
  pointwise [k0_pay10, k0_pay12]
  rw [show k0_pay8 v (ix2 r c) = _ from gradX_apply h r c, show k0_pay9 v (ix2 r c) = _ from gradY_apply h r c, word_top]
  set a := sobelX f r c
  set b := sobelY f r c
  obtain ⟨j, rfl⟩ : ∃ i, j = i + 1 := ⟨j - 1, by omega⟩
  by_cases ha : a = 0
  · simp [ha, IsPast]
  have hd : Ideal.div (if (a : EReal) < 0 then 0 - (b : EReal) else b) (FloatOps.absf (F := Ideal) (φ := .f32) (a : EReal)) = ((b / a : ℝ) : EReal) := by
    have habs : FloatOps.absf (F := Ideal) (φ := .f32) (a : EReal) = ((|a| : ℝ) : EReal) := by
      show max (a : EReal) (-(a : EReal)) = _
      rw [← EReal.coe_neg]
      rcases le_total 0 a with a0 | a0
      · rw [abs_of_nonneg a0, max_eq_left (EReal.coe_le_coe_iff.2 (by linarith))]
      · rw [abs_of_nonpos a0, max_eq_right (EReal.coe_le_coe_iff.2 (by linarith))]
    rw [habs, Ideal.div_coe (abs_ne_zero.2 ha)]
    rcases lt_or_gt_of_ne ha with a0 | a0
    · rw [if_pos (by exact_mod_cast a0), zero_sub, ← EReal.coe_neg, ← EReal.coe_mul, abs_of_neg a0]
      congr 1; field_simp
    · rw [if_neg (by exact_mod_cast a0.le.not_gt), ← EReal.coe_mul, abs_of_pos a0]
      congr 1; field_simp
  rw [if_neg (by exact_mod_cast ha), hd, EReal.coe_le_coe_iff]
  simp [IsPast, ha]

/-- The weight of the pixels past edge `j`, zero elsewhere. -/
theorem kept_apply (h : Holds v f) (r c : Fin 512) (j : ℕ) (h9 : j ≤ 9) :
    kept v j (ix2 r c) = ((keptR (sobelX f r c) (sobelY f r c) j : ℝ) : EReal) := by
  cases j with
  | zero => simpa [kept, keptR, IsPast] using weight_apply h r c
  | succ j =>
    unfold kept past fill
    pointwise
    rw [show weight v (ix2 r c) = _ from weight_apply h r c]
    have hi := slope_le_iff h r c (j + 1) (by omega) h9
    unfold keptR
    by_cases hp : IsPast (sobelX f r c) (sobelY f r c) (j + 1)
    · rw [if_pos hp]; exact if_pos (hi.2 hp)
    · rw [if_neg hp]; exact if_neg (mt hi.1 hp)

/-- One at the pixels past edge `j`, zero elsewhere. -/
theorem flag_apply (h : Holds v f) (r c : Fin 512) (j : ℕ) (h1 : 1 ≤ j) (h9 : j ≤ 9) :
    flag v j (ix2 r c) = ((flagR (sobelX f r c) (sobelY f r c) j : ℝ) : EReal) := by
  unfold flag past fill
  pointwise
  have hi := slope_le_iff h r c j h1 h9
  unfold flagR
  by_cases hp : IsPast (sobelX f r c) (sobelY f r c) j
  · rw [if_pos hp]; exact if_pos (hi.2 hp)
  · rw [if_neg hp]; exact if_neg (mt hi.1 hp)

/-! ## The two products with 0/1 matrices -/

/-- Summing against the 0/1 row of a group of eight sums the group. -/
theorem sum_group (g : ℕ → ℝ) (p : Fin 64) :
    ∑ l : Fin 512, (if (l : ℕ) / 8 = p then 1 else 0) * g l = ∑ i : Fin 8, g (8 * p + i) := by
  have e : ∑ l : Fin 512, (if (l : ℕ) / 8 = p then 1 else 0) * g l
      = ∑ x : Fin 64 × Fin 8, (if x.1 = p then 1 else 0) * g (8 * x.1 + x.2) := by
    refine (Fintype.sum_equiv (finProdFinEquiv : Fin 64 × Fin 8 ≃ Fin 512) _ _ fun x => ?_).symm
    have hx : ((finProdFinEquiv x : Fin 512) : ℕ) = 8 * x.1 + x.2 := by simp [finProdFinEquiv]; omega
    rw [hx, show (8 * (x.1 : ℕ) + x.2) / 8 = x.1 by omega]
    simp only [Fin.ext_iff]
  rw [e, Fintype.sum_prod_type, Finset.sum_eq_single p]
  · simp
  · intro b _ hb; simp [hb]
  · simp

/-- The two products with the 0/1 matrices sum a plane of real numbers over the cells of 8 by 8 pixels. -/
theorem pooled_apply {φ : FTy} {x1 : FVec Ideal S64x512 φ} {x3 : FVec Ideal S512x64 .f32} {w : FVec Ideal S512x512 φ} {g : ℕ → ℕ → ℝ}
    (h1 : ∀ p l, x1 (ix2 p l) = ((if (l : ℕ) / 8 = p then 1 else 0 : ℝ) : EReal))
    (h3 : ∀ l q, x3 (ix2 l q) = ((if (l : ℕ) / 8 = q then 1 else 0 : ℝ) : EReal))
    (hw : ∀ r c, w (ix2 r c) = ((g r c : ℝ) : EReal)) (p q : Fin 64) :
    matmul dot_S64x512_S512x64_S64x64_1_0_0_1_n_n none
      (matmul dot_S64x512_S512x512_S64x512_1_0_0_1_n_n none x1 w (constant S64x512 .f32 0x00000000#32))
      x3 (constant S64x64 .f32 0x00000000#32) (ix2 p q) = ((pool g p q : ℝ) : EReal) := by
  have inner : ∀ x : Fin 512, ∑ l : Fin 512, x1 (ix2 p l) * w (ix2 l x) = ((∑ i : Fin 8, g (8 * p + i) x : ℝ) : EReal) := fun x => by
    rw [← sum_group (fun l => g l x) p]
    simp only [h1, hw, ← EReal.coe_mul, ← coe_sum]
  have outer := sum_group (fun x => ∑ i : Fin 8, g (8 * p + i) x) q
  pointwise
  simp only [inner, h3, ← EReal.coe_mul, ← coe_sum]
  rw [pool, Finset.sum_comm, ← outer]
  simp only [mul_comm]

/-! ## One image's bins -/

/-- The weights past edge `j`, summed over a cell. -/
theorem sumKept_apply {x1 : Vec Ideal S64x512 .f32} {x3 : Vec Ideal S512x64 .f32}
    (h1 : ∀ p l, x1 (ix2 p l) = ((if (l : ℕ) / 8 = p then 1 else 0 : ℝ) : EReal))
    (h3 : ∀ l q, x3 (ix2 l q) = ((if (l : ℕ) / 8 = q then 1 else 0 : ℝ) : EReal))
    (h : Holds v f) (j : ℕ) (h9 : j ≤ 9) (p q : Fin 64) :
    sumKept x1 x3 v j (ix2 p q) = ((pool (fun r c => keptR (sobelX f r c) (sobelY f r c) j) p q : ℝ) : EReal) :=
  pooled_apply (fun p l => by rw [← h1]; unfold k0_pay14; pointwise) (fun l q => by rw [← h3]; unfold k0_pay16; pointwise)
    (fun r c => kept_apply h r c j h9) p q

/-- The number of pixels of a cell past edge `j`. -/
theorem sumFlag_apply {x2 : Vec Ideal S64x512 .bf16} {x3 : Vec Ideal S512x64 .f32}
    (h2 : ∀ p l, x2 (ix2 p l) = ((if (l : ℕ) / 8 = p then 1 else 0 : ℝ) : EReal))
    (h3 : ∀ l q, x3 (ix2 l q) = ((if (l : ℕ) / 8 = q then 1 else 0 : ℝ) : EReal))
    (h : Holds v f) (j : ℕ) (hj : 1 ≤ j) (h9 : j ≤ 9) (p q : Fin 64) :
    sumFlag x2 x3 v j (ix2 p q) = ((pool (fun r c => flagR (sobelX f r c) (sobelY f r c) j) p q : ℝ) : EReal) :=
  pooled_apply (fun p l => by rw [← h2]; unfold k0_pay15; pointwise) (fun l q => by rw [← h3]; unfold k0_pay16; pointwise)
    (fun r c => flag_apply h r c j hj h9) p q

/-- The combination of the sums over a cell is the sum over the cell of the combinations. -/
theorem totalR_pool (a s : ℕ → ℕ → ℕ → ℝ) (k : ℕ) (p q : ℕ) :
    totalR 64 (fun j => pool (a j) p q) (fun j => pool (s j) p q) k
      = pool (fun r c => totalR 1 (fun j => a j r c) (fun j => s j r c) k) p q := by
  have h64 : (64 : ℝ) = pool (fun _ _ => 1) p q := by simp [pool]; norm_num
  rw [h64]
  unfold totalR pool
  split <;> simp only [Finset.sum_add_distrib, Finset.sum_sub_distrib, Finset.sum_const_zero, sub_zero]

/-- The combination of two families of planes, at a cell where the planes are the real numbers `A` and `S`. -/
theorem total_apply {a s : ℕ → FVec Ideal S64x64 .f32} {A S : ℕ → ℝ} (p q : Fin 64) (hA : ∀ j ≤ 9, a j (ix2 p q) = ((A j : ℝ) : EReal))
    (hS : ∀ j, 1 ≤ j → j ≤ 9 → s j (ix2 p q) = ((S j : ℝ) : EReal)) (k : ℕ) (hk : k ≤ 9) :
    total a s k (ix2 p q) = ((totalR 64 A S k : ℝ) : EReal) := by
  interval_cases k <;> simp only [total, totalR] <;> pointwise <;>
    simp (disch := norm_num) only [hA, hS, word_sixtyFour, ← EReal.coe_zero, ← EReal.coe_sub, ← EReal.coe_add]

/-- What the kernel stores for bin `k` of an image clear of the edges is the mean of the reference's shares. -/
theorem cell_apply {x1 : Vec Ideal S64x512 .f32} {x2 : Vec Ideal S64x512 .bf16} {x3 : Vec Ideal S512x64 .f32}
    (h1 : ∀ p l, x1 (ix2 p l) = ((if (l : ℕ) / 8 = p then 1 else 0 : ℝ) : EReal))
    (h2 : ∀ p l, x2 (ix2 p l) = ((if (l : ℕ) / 8 = p then 1 else 0 : ℝ) : EReal))
    (h3 : ∀ l q, x3 (ix2 l q) = ((if (l : ℕ) / 8 = q then 1 else 0 : ℝ) : EReal))
    (h : Holds v f) (hc : ∀ r < 512, ∀ c < 512, Clear (sobelX f r c) (sobelY f r c)) (k : ℕ) (hk : k ≤ 9) (p q : Fin 64) :
    cell x1 x2 x3 v k (ix4 0 0 p q) = ((hog f k p q : ℝ) : EReal) := by
  have ht := total_apply p q (fun j hj => sumKept_apply h1 h3 h j hj p q) (fun j hj h9 => sumFlag_apply h2 h3 h j hj h9 p q) k hk
  unfold cell
  pointwise
  rw [ht, word_inv_sixtyFour, ← EReal.coe_mul, totalR_pool, hog, mul_one_div]
  congr 2
  refine Finset.sum_congr rfl fun i _ => Finset.sum_congr rfl fun j _ => ?_
  exact share_eq (hc _ (by omega) _ (by omega)) hk

end Cert.Hog

end
-- ==== Proof.Entry.lean ====
/- What the kernel's operands hold when it starts, block by block: the images, and the three 0/1 matrices.
   Hand-written, untrusted. -/
module

public import proofs.«01_k».proof.Proof.KernelPixel
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Hog

open Cert.KernelIdeal Cert.KernelIdeal.Gen Idealize.ShloMosaic Idealize.ShloMosaic.TcCoe Idealize.SL.Sem

/-- The sign of a word, as the host has it. -/
def signWord (w : BitVec 32) : BitVec 32 := if w = 0 then 0 else if w.msb = true then -1 else 1

/-- The host's rounded-down quotient by 8, on the words of the column numbers. -/
def floorDivEight (w : BitVec 32) : BitVec 32 :=
  Scalar.select
    (IntOp.andi (IntOp.cmpi CmpIPredicate.ne (signWord w) (signWord 8#32))
      (IntOp.cmpi CmpIPredicate.ne (IntOp.remsi ArithUnit.host w 8#32) 0#32))
    (IntOp.subi (IntOp.divsi ArithUnit.host w 8#32) 1#32)
    (IntOp.divsi ArithUnit.host w 8#32)

/-- It is the natural quotient, as a comparison with a row's number sees it. -/
theorem floorDivEight_ofNat : ∀ l : Fin 512, floorDivEight (BitVec.ofNat 32 l) = BitVec.ofNat 32 (l / 8) := by decide +kernel

variable (m : (ℓ : Loc nD τ sig) → Buf (Elt Ideal) ℓ) (c : Dev nD)

/-- The first 0/1 matrix: row `p` marks the rows of group `p`. -/
theorem entry_rows (p : Fin 64) (l : Fin 512) : V m c main_v6 (ix2 p l) = ((if (l : ℕ) / 8 = p then 1 else 0 : ℝ) : EReal) := by
  unfold V
  after_reads_at
  simp only [id]
  pointwise
  change Scalar.select (IntOp.cmpi .eq (BitVec.ofNat 32 p) (floorDivEight (BitVec.ofNat 32 l))) (1 : EReal) 0 = _
  have e : BitVec.ofNat 32 (p : ℕ) = BitVec.ofNat 32 ((l : ℕ) / 8) ↔ (l : ℕ) / 8 = p := by
    rw [← BitVec.toNat_inj, BitVec.toNat_ofNat, BitVec.toNat_ofNat]; omega
  rw [floorDivEight_ofNat]
  by_cases h : (l : ℕ) / 8 = p
  · simp [Scalar.select, IntOp.cmpi, h]
  · have hb := beq_eq_false_iff_ne.2 (mt e.1 h)
    simp [Scalar.select, IntOp.cmpi, h, hb]

/-- The same matrix in the other float type. -/
theorem entry_rows' (p : Fin 64) (l : Fin 512) : V m c main_v7 (ix2 p l) = V m c main_v6 (ix2 p l) := by
  unfold V
  after_reads_at

/-- Its transpose. -/
theorem entry_cols (l : Fin 512) (q : Fin 64) : V m c main_v8 (ix2 l q) = V m c main_v6 (ix2 q l) := by
  unfold V
  after_reads_at

/-- The images, without their unit axis. -/
theorem entry_image (n : Fin 16) (r l : Fin 512) : V m c main_v0 (ix3 n r l) = m ((c : Thread nD τ).loc main_arg0) (ix4 n 0 r l) := by
  unfold V
  after_reads_at

/-- Step `t` takes the `t`-th block of images. -/
theorem index0 : ∀ t, win0_0.index t = ![t.val, 0, 0] := (by decide +kernel : ∀ t : Fin grid0.N, win0_0.index t = ![t.val, 0, 0])
/-- Every step takes the whole row-pooling matrix. -/
theorem index1 : ∀ t, win0_1.index t = ![0, 0] := (by decide +kernel : ∀ t : Fin grid0.N, win0_1.index t = ![0, 0])
/-- Every step takes the whole of its bfloat16 copy. -/
theorem index2 : ∀ t, win0_2.index t = ![0, 0] := (by decide +kernel : ∀ t : Fin grid0.N, win0_2.index t = ![0, 0])
/-- Every step takes the whole column-pooling matrix. -/
theorem index3 : ∀ t, win0_3.index t = ![0, 0] := (by decide +kernel : ∀ t : Fin grid0.N, win0_3.index t = ![0, 0])
/-- Step `t` writes the `t`-th block of the output. -/
theorem index4 : ∀ t, win0_4.index t = ![t.val, 0, 0, 0] := (by decide +kernel : ∀ t : Fin grid0.N, win0_4.index t = ![t.val, 0, 0, 0])

/-- There are four steps. -/
theorem steps (t : Fin cfg0.N) : t.val < 4 := t.isLt

/-- The first matrix, as every step loads it. -/
theorem block_rows (t : Fin cfg0.N) (p : Fin 64) (l : Fin 512) :
    View.ld (iblk m c 1 t) r0_1 (ix2 p l) = ((if (l : ℕ) / 8 = p then 1 else 0 : ℝ) : EReal) := by
  rw [← entry_rows m c p l]
  pointwise
  blk_simp [iblk, index1]
  blk_ext [index1]

/-- The copy of the row-pooling matrix, at a step: one where the pixel row is in the cell row, else zero. -/
theorem block_rows' (t : Fin cfg0.N) (p : Fin 64) (l : Fin 512) :
    View.ld (iblk m c 2 t) r0_1 (ix2 p l) = ((if (l : ℕ) / 8 = p then 1 else 0 : ℝ) : EReal) := by
  rw [← entry_rows m c p l, ← entry_rows']
  pointwise
  blk_simp [iblk, index2]
  blk_ext [index2]

/-- The column-pooling matrix, at a step: one where the pixel column is in the cell column, else zero. -/
theorem block_cols (t : Fin cfg0.N) (l : Fin 512) (q : Fin 64) :
    View.ld (iblk m c 3 t) r0_2 (ix2 l q) = ((if (l : ℕ) / 8 = q then 1 else 0 : ℝ) : EReal) := by
  rw [← entry_rows m c q l, ← entry_cols]
  pointwise
  blk_simp [iblk, index3]
  blk_ext [index3]

/-- The four images of a step's block, as the step loads them. -/
theorem block_image (t : Fin cfg0.N) (r l : Fin 512) (h : ∀ b : Fin 4, 4 * t.val + b < 16) :
    View.ld (iblk m c 0 t) r0_0 (ix3 0 r l) = m ((c : Thread nD τ).loc main_arg0) (ix4 ⟨4 * t.val + (0 : Fin 4), h 0⟩ 0 r l)
    ∧ View.ld (iblk m c 0 t) r0_13 (ix3 0 r l) = m ((c : Thread nD τ).loc main_arg0) (ix4 ⟨4 * t.val + (1 : Fin 4), h 1⟩ 0 r l)
    ∧ View.ld (iblk m c 0 t) r0_24 (ix3 0 r l) = m ((c : Thread nD τ).loc main_arg0) (ix4 ⟨4 * t.val + (2 : Fin 4), h 2⟩ 0 r l)
    ∧ View.ld (iblk m c 0 t) r0_35 (ix3 0 r l) = m ((c : Thread nD τ).loc main_arg0) (ix4 ⟨4 * t.val + (3 : Fin 4), h 3⟩ 0 r l) := by
  simp only [← entry_image m c]
  refine ⟨?_, ?_, ?_, ?_⟩ <;>
  · pointwise
    blk_simp [iblk, index0]
    blk_ext [index0]

end Cert.Hog

end
-- ==== Proof.KernelValue.lean ====
/- The kernel's output array, whole: every step's block is its images' bins. Hand-written, untrusted. -/
module

public import proofs.«01_k».proof.Proof.Entry

@[expose] public section

set_option maxRecDepth 16384

noncomputable section

namespace Cert.Hog

open Cert.KernelIdeal Cert.KernelIdeal.Gen Idealize.ShloMosaic Idealize.ShloMosaic.TcCoe Idealize.SL.Sem

variable (m : (ℓ : Loc nD τ sig) → Buf (Elt Ideal) ℓ) (c : Dev nD)

/-- The images a launch of the kernel starts from. -/
def images (n : Fin 16) (r l : Fin 512) : EReal := m ((c : Thread nD τ).loc main_arg0) (ix4 n 0 r l)

/-- The output array the theorem claims. -/
def result (x : Fin 16 → Fin 512 → Fin 512 → EReal) (y : S16x10x64x64.Idx) : EReal :=
  ((hog (pix x (y 0)) (y 1) (y 2) (y 3) : ℝ) : EReal)

/-- One stored piece: bin `k` of the image numbered `n`, at the places `p`, `q`. -/
theorem piece {t : Fin cfg0.N} (hg : Good (images m c)) {v : Vec Ideal S1x512x512 .f32} {n : ℕ} (hn : n < 16) (hv : Holds v (pix (images m c) n))
    (k : ℕ) (hk : k ≤ 9) (x : S1x1x64x64.Idx) {z : S16x10x64x64.Idx} (h0 : (z 0 : ℕ) = n) (h1 : (z 1 : ℕ) = k)
    (h2 : (z 2 : ℕ) = x 2) (h3 : (z 3 : ℕ) = x 3) :
    cell (View.ld (iblk m c 1 t) r0_1) (View.ld (iblk m c 2 t) r0_1) (View.ld (iblk m c 3 t) r0_2) v k x = result (images m c) z := by
  obtain ⟨p, q, rfl⟩ : ∃ p q : Fin 64, x = ix4 0 0 p q := ⟨x 2, x 3, by blk_ext⟩
  refine (cell_apply (block_rows m c t) (block_rows' m c t) (block_cols m c t) hv (hg.clear n hn) k hk p q).trans ?_
  rw [result, h0, h1, h2, h3]
  rfl

/-- The forty pieces are the function `g` as soon as every piece is `g` where it is stored. -/
theorem canon_pieces (at' : Vec Ideal S1x512x512 .f32 → ℕ → FVec Ideal S1x1x64x64 .f32) (w : Fin 4 → Vec Ideal S1x512x512 .f32)
    (g : S4x10x64x64.Idx → EReal)
    (hp : ∀ (b : Fin 4) (k : ℕ) (x : S1x1x64x64.Idx) (y : S4x10x64x64.Idx), k ≤ 9 → (y 0 : ℕ) = b → (y 1 : ℕ) = k →
      (y 2 : ℕ) = x 2 → (y 3 : ℕ) = x 3 → at' (w b) k x = g y) (y : S4x10x64x64.Idx) :
    View.canon (pieces at' w) y = g y := by
  unfold pieces
  canon_tiles y h
  all_goals exact hp _ _ _ _ (by norm_num) (by omega) (by omega) (by omega) (by omega)

/-- A step's four images are four consecutive ones. -/
theorem loads_image (hg : Good (images m c)) (t : Fin cfg0.N) (b : Fin 4) :
    Holds (loads (iblk m c 0 t) b) (pix (images m c) (4 * t.val + b)) := fun r l => by
  have ht := steps t
  obtain ⟨i0, i1, i2, i3⟩ := block_image m c t r l (fun b => by omega)
  fin_cases b
  · exact i0.trans (hg.real _ r l)
  · exact i1.trans (hg.real _ r l)
  · exact i2.trans (hg.real _ r l)
  · exact i3.trans (hg.real _ r l)

/-- THE KERNEL'S OUTPUT: the mean over every cell of the reference's shares. -/
theorem kernel_array (hg : Good (images m c)) : (dats m 0 c).arrAt 4 cfg0.N = result (images m c) := by
  refine (dats m 0 c).arrAt_eq_of_covers 4 _ (by decide +kernel) fun t hf y => ?_
  have ht := steps t
  have e0 : ∀ y, ((((cfg0.win 4).blk t).view.emb y 0 : Fin 16) : ℕ) = 4 * t.val + y 0 := fun y => by blk_simp [index4]; omega
  have e1 : ∀ y, ((((cfg0.win 4).blk t).view.emb y 1 : Fin 10) : ℕ) = y 1 := fun y => by blk_simp [index4]
  have e2 : ∀ y, ((((cfg0.win 4).blk t).view.emb y 2 : Fin 64) : ℕ) = y 2 := fun y => by blk_simp [index4]
  have e3 : ∀ y, ((((cfg0.win 4).blk t).view.emb y 3 : Fin 64) : ℕ) = y 3 := fun y => by blk_simp [index4]
  generalize ((cfg0.win 4).blk t).view.emb = z at e0 e1 e2 e3 ⊢
  blk_simp
  rw [after0_4, out_eq]
  exact canon_pieces _ _ (fun y => result (images m c) (z y)) (fun b k x y hk h0 h1 h2 h3 =>
    piece m c hg (by omega) (loads_image m c hg t b) k hk x ((e0 y).trans (by rw [h0])) ((e1 y).trans h1) ((e2 y).trans h2)
      ((e3 y).trans h3)) y

end Cert.Hog

end
-- ==== Proof.HostPixel.lean ====
/- The reference's Sobel sums at one pixel, over the extended reals: each is the real number the pixel theorem speaks of.
   Hand-written, untrusted. -/
module

public import proofs.«01_k».proof.Proof.Gen.ReferenceIdeal
public import proofs.«01_k».proof.Proof.Sobel
public import proofs.«01_k».proof.Proof.Words

@[expose] public section

set_option maxRecDepth 16384

noncomputable section

namespace Cert.Hog

open Cert.ReferenceIdeal Cert.ReferenceIdeal.Gen Cert.ReferenceIdeal.Facts Idealize.ShloMosaic

/-- The images the argument holds. -/
def pixels (x : FVec Ideal S16x1x512x512 .f32) (n : Fin 16) (r c : Fin 512) : EReal := x (ix4 n 0 r c)

/-- The batch with its border of zeros. -/
def bordered (x : FVec Ideal S16x1x512x512 .f32) : FVec Ideal S16x514x514 .f32 :=
  pad S16x514x514 ![0, 1, 1] ![0, 1, 1] ![0, 0, 0] (shapeCast _ x shapeCasts_S16x1x512x512_S16x512x512)
    (sitofp .f32 (constantI S_ 32 0#32)) pads_S16x512x512_S16x514x514_000_110_110 h_S_

/-- The batch with its border is, at every place, the zero-bordered image. -/
theorem bordered_apply (x : FVec Ideal S16x1x512x512 .f32) (hx : ∀ n r c, pixels x n r c = ((pix (pixels x) n r c : ℝ) : EReal))
    (n : Fin 16) (r c : Fin 514) : bordered x (ix3 n r c) = ((padded (pix (pixels x) n) r c : ℝ) : EReal) := by
  unfold bordered
  pointwise
  rw [padded]
  by_cases h : (1 ≤ (r : ℕ) ∧ (r : ℕ) ≤ 512) ∧ 1 ≤ (c : ℕ) ∧ (c : ℕ) ≤ 512
  · rw [dif_pos (by omega), if_pos h]
    exact hx n ⟨r - 1, by omega⟩ ⟨c - 1, by omega⟩
  · rw [dif_neg (by omega), if_neg h]
    simp [FloatOps.sitofp]

/-- The sum of the nine shifted products, with the matrix's entries, as words, row after row. -/
def nine (P : FVec Ideal S16x514x514 .f32) (w : Fin 3 → Fin 3 → BitVec 32) : FVec Ideal S16x512x512 .f32 :=
  addf (addf (addf (addf (addf (addf (addf (addf (addf (entry 0x00000000#32)
    (mulf (entry (w 0 0)) (extractStridedSlice S16x512x512 ![0, 0, 0] P slices_S16x514x514_S16x512x512_0_0_0)))
    (mulf (entry (w 0 1)) (extractStridedSlice S16x512x512 ![0, 0, 1] P slices_S16x514x514_S16x512x512_0_0_1)))
    (mulf (entry (w 0 2)) (extractStridedSlice S16x512x512 ![0, 0, 2] P slices_S16x514x514_S16x512x512_0_0_2)))
    (mulf (entry (w 1 0)) (extractStridedSlice S16x512x512 ![0, 1, 0] P slices_S16x514x514_S16x512x512_0_1_0)))
    (mulf (entry (w 1 1)) (extractStridedSlice S16x512x512 ![0, 1, 1] P slices_S16x514x514_S16x512x512_0_1_1)))
    (mulf (entry (w 1 2)) (extractStridedSlice S16x512x512 ![0, 1, 2] P slices_S16x514x514_S16x512x512_0_1_2)))
    (mulf (entry (w 2 0)) (extractStridedSlice S16x512x512 ![0, 2, 0] P slices_S16x514x514_S16x512x512_0_2_0)))
    (mulf (entry (w 2 1)) (extractStridedSlice S16x512x512 ![0, 2, 1] P slices_S16x514x514_S16x512x512_0_2_1)))
    (mulf (entry (w 2 2)) (extractStridedSlice S16x512x512 ![0, 2, 2] P slices_S16x514x514_S16x512x512_0_2_2))
where
  /-- One entry of the matrix, at every pixel. -/
  entry (w : BitVec 32) : FVec Ideal S16x512x512 .f32 :=
    broadcastInDim S16x512x512 ![] bcast_S_S16x512x512 (constant S_ .f32 w)

/-- The entries of the Sobel matrix, as words. -/
def matX : Fin 3 → Fin 3 → BitVec 32 :=
  ![![0x3F800000#32, 0x00000000#32, 0xBF800000#32], ![0x40000000#32, 0x00000000#32, 0xC0000000#32],
    ![0x3F800000#32, 0x00000000#32, 0xBF800000#32]]

/-- The entries of its transpose. -/
def matY (i j : Fin 3) : BitVec 32 := matX j i

variable {P : FVec Ideal S16x514x514 .f32} {f : ℕ → ℕ → ℝ} {n : Fin 16}

/-- With the Sobel matrix's entries, the nine products sum to the first gradient. -/
theorem nineX_apply (h : ∀ r c : Fin 514, P (ix3 n r c) = ((padded f r c : ℝ) : EReal)) (r c : Fin 512) :
    nine P matX (ix3 n r c) = ((sobelX f r c : ℝ) : EReal) := by
  unfold nine
  pointwise [nine.entry, matX]
  simp only [h, word_neg_one, word_neg_two, word_two, zero_mul, add_zero]
  rw [sobelX, add_comm 1 (r : ℕ), add_comm 2 (r : ℕ), add_comm 2 (c : ℕ)]
  simp only [← EReal.coe_mul, ← EReal.coe_add]
  congr 1
  ring

/-- With the transposed matrix's entries, they sum to the second gradient. -/
theorem nineY_apply (h : ∀ r c : Fin 514, P (ix3 n r c) = ((padded f r c : ℝ) : EReal)) (r c : Fin 512) :
    nine P matY (ix3 n r c) = ((sobelY f r c : ℝ) : EReal) := by
  unfold nine
  pointwise [nine.entry, matY, matX]
  simp only [h, word_neg_one, word_neg_two, word_two, zero_mul, add_zero]
  rw [sobelY, add_comm 2 (r : ℕ), add_comm 1 (c : ℕ), add_comm 2 (c : ℕ)]
  simp only [← EReal.coe_mul, ← EReal.coe_add]
  congr 1
  ring

/-- The direction's place among the bins: the angle over a half turn, times ten. -/
def place (gx gy : FVec Ideal S16x512x512 .f32) : FVec Ideal S16x512x512 .f32 :=
  mulf (Host.divf (Host.atan2 gx gy)
      (broadcastInDim S16x512x512 ![] bcast_S_S16x512x512 (Host.atan2 (constant S_ .f32 0x00000000#32) (constant S_ .f32 0xBF800000#32))))
    (broadcastInDim S16x512x512 ![] bcast_S_S16x512x512 (constant S_ .f32 0x41200000#32))

/-- The place of a pixel is its gradient's angle counted in bins. -/
theorem place_apply {gx gy : FVec Ideal S16x512x512 .f32} {r c : Fin 512} {a b : ℝ} (hx : gx (ix3 n r c) = (a : EReal))
    (hy : gy (ix3 n r c) = (b : EReal)) : place gx gy (ix3 n r c) = ((binPos a b : ℝ) : EReal) := by
  unfold place
  pointwise
  have half : Ideal.atan2 ((0 : ℝ) : EReal) ((-1 : ℝ) : EReal) = ((Real.pi : ℝ) : EReal) :=
    congrArg Real.toEReal (show ang 0 (-1) = Real.pi by norm_num [ang])
  rw [hx, hy, word_neg_one, word_ten, ← EReal.coe_zero, half, Ideal.div_coe Real.pi_ne_zero, binPos, div_eq_mul_one_div (ang a b),
    EReal.coe_mul, EReal.coe_mul]
  rfl

/-- The remainder by ten, as the reference takes it: the truncated one, and ten more where it is negative. -/
def modTen (v : IVec S16x1x512x512 32) : IVec S16x1x512x512 32 :=
  select (andi (cmpi .ne (cmpi .slt (trunc v) (all (constantI S_ 32 0#32)))
        (broadcastInDim S16x1x512x512 ![] bcast_S_S16x1x512x512 (cmpi .slt ten (constantI S_ 32 0#32))))
      (cmpi .ne (trunc v) (all (constantI S_ 32 0#32))))
    (addi (trunc v) (all ten)) (trunc v)
where
  /-- A number, at every pixel. -/
  all (w : IVec S_ 32) : IVec S16x1x512x512 32 := broadcastInDim S16x1x512x512 ![] bcast_S_S16x1x512x512 w
  /-- The divisor: ten, or one if it were zero. -/
  ten : IVec S_ 32 := select (cmpi .eq (id (constantI S_ 32 10#32)) (constantI S_ 32 0#32)) (constantI S_ 32 1#32) (id (constantI S_ 32 10#32))
  /-- The truncated remainder. -/
  trunc (v : IVec S16x1x512x512 32) : IVec S16x1x512x512 32 := Host.remsi v (all ten)

/-- On whole numbers from −10 to 10 the remainder is the one between 0 and 9. -/
theorem modTen_apply (v : IVec S16x1x512x512 32) {r c : Fin 512} {z : ℤ} (hv : v (ix4 n 0 r c) = BitVec.ofInt 32 z) (h1 : -10 ≤ z)
    (h2 : z ≤ 10) : modTen v (ix4 n 0 r c) = BitVec.ofInt 32 (z % 10) := by
  unfold modTen
  pointwise [modTen.all, modTen.ten, modTen.trunc]
  rw [hv]
  interval_cases z <;> rfl

/-- The share of every bin at every pixel. -/
def shares (place norm : FVec Ideal S16x1x512x512 .f32) : FVec Ideal S16x10x512x512 .f32 :=
  addf (pick (modTen (fptosi 32 (Host.floor place))) norm)
    (pick (modTen (fptosi 32 (Host.ceil place))) (subf (broadcastInDim S16x1x512x512 ![] bcast_S_S16x1x512x512 (constant S_ .f32 0x3F800000#32)) norm))
where
  /-- The weight in the bin named, zero in the others. -/
  pick (v : IVec S16x1x512x512 32) (w : FVec Ideal S16x1x512x512 .f32) : FVec Ideal S16x10x512x512 .f32 :=
    select (cmpi .eq
        (broadcastInDim S16x10x512x512 ![0, 1, 2, 3] bcast_S1x10x1x1_S16x10x512x512_0_1_2_3
          (broadcastInDim S1x10x1x1 ![1] bcast_S10_S1x10x1x1_1 (iotaInDim S10 32 0)))
        (broadcastInDim S16x10x512x512 ![0, 1, 2, 3] bcast_S16x1x512x512_S16x10x512x512_0_1_2_3 v))
      (broadcastInDim S16x10x512x512 ![0, 1, 2, 3] bcast_S16x1x512x512_S16x10x512x512_0_1_2_3 w)
      (broadcastInDim S16x10x512x512 ![] bcast_S_S16x10x512x512 (id (constant S_ .f32 0x00000000#32)))

/-- The weight is in the bin whose number the remainder is, and the others have zero. -/
theorem pick_apply {v : IVec S16x1x512x512 32} {w : FVec Ideal S16x1x512x512 .f32} {k : Fin 10} {r c : Fin 512} {z : ℤ} {a : ℝ}
    (hv : v (ix4 n 0 r c) = BitVec.ofInt 32 (z % 10)) (hw : w (ix4 n 0 r c) = (a : EReal)) :
    shares.pick v w (ix4 n k r c) = ((if (k : ℤ) = z % 10 then a else 0 : ℝ) : EReal) := by
  unfold shares.pick
  pointwise
  rw [hv, hw]
  have h1 : 0 ≤ z % 10 := Int.emod_nonneg _ (by norm_num)
  have h2 : z % 10 < 10 := Int.emod_lt_of_pos _ (by norm_num)
  generalize z % 10 = d at h1 h2 ⊢
  have word : (BitVec.ofNat 32 (k : ℕ) = BitVec.ofInt 32 d) ↔ (k : ℤ) = d := by
    interval_cases d <;> fin_cases k <;> decide
  by_cases h : (k : ℤ) = d
  · rw [if_pos h, word.2 h]; simp [Scalar.select, IntOp.cmpi]
  · rw [if_neg h]
    have : id (constant (F := Ideal) S_ FTy.f32 (0#32)) ix0 = 0 := Ideal.ofBits_zero_f32
    simp [Scalar.select, IntOp.cmpi, beq_false_of_ne (mt word.1 h), this]

/-- A whole number from −10 to 10, as a real, becomes the same number as a word. -/
theorem word_of_real {z : ℤ} (h1 : -10 ≤ z) (h2 : z ≤ 10) : Ideal.fptosi 32 (((z : ℝ) : EReal)) = BitVec.ofInt 32 z := by
  rw [Ideal.fptosi, Ideal.toIntClamped_coe, Int.floor_intCast, Int.ceil_intCast, ite_self]
  congr 1
  norm_num
  omega

/-- The bin of the floor of a place. -/
theorem floor_apply {v : FVec Ideal S16x1x512x512 .f32} {r c : Fin 512} {a : ℝ} (hv : v (ix4 n 0 r c) = (a : EReal)) (h1 : -10 ≤ a)
    (h2 : a ≤ 10) : modTen (fptosi 32 (Host.floor v)) (ix4 n 0 r c) = BitVec.ofInt 32 (⌊a⌋ % 10) := by
  have l1 : -10 ≤ ⌊a⌋ := Int.le_floor.2 (by exact_mod_cast h1)
  have l2 : ⌊a⌋ ≤ 10 := by exact_mod_cast (Int.floor_le a).trans h2
  refine modTen_apply _ ?_ l1 l2
  pointwise
  rw [hv]
  exact word_of_real l1 l2

/-- The bin of the ceiling of a place. -/
theorem ceil_apply {v : FVec Ideal S16x1x512x512 .f32} {r c : Fin 512} {a : ℝ} (hv : v (ix4 n 0 r c) = (a : EReal)) (h1 : -10 ≤ a)
    (h2 : a ≤ 10) : modTen (fptosi 32 (Host.ceil v)) (ix4 n 0 r c) = BitVec.ofInt 32 (⌈a⌉ % 10) := by
  have l1 : -10 ≤ ⌈a⌉ := by exact_mod_cast h1.trans (Int.le_ceil a)
  have l2 : ⌈a⌉ ≤ 10 := Int.ceil_le.2 (by exact_mod_cast h2)
  refine modTen_apply _ ?_ l1 l2
  pointwise
  rw [hv]
  exact word_of_real l1 l2

/-- The angle is within a half turn, so its place is within ten bins. -/
theorem binPos_bounds (a b : ℝ) : -10 ≤ binPos a b ∧ binPos a b ≤ 10 := by
  have hp := Real.pi_pos
  have h1 := Real.neg_pi_div_two_lt_arctan (a / b)
  have h2 := Real.arctan_lt_pi_div_two (a / b)
  have h : -Real.pi ≤ ang a b ∧ ang a b ≤ Real.pi := by
    unfold ang
    split_ifs with c1 c2 c3 c4 c5
    · constructor <;> linarith
    · have : Real.arctan (a / b) ≤ 0 := Real.arctan_zero ▸ Real.arctan_strictMono.monotone (div_nonpos_of_nonneg_of_nonpos c3 c2.le)
      constructor <;> linarith
    · have : 0 ≤ Real.arctan (a / b) := Real.arctan_zero ▸ Real.arctan_strictMono.monotone (div_nonneg_of_nonpos (le_of_not_ge c3) c2.le)
      constructor <;> linarith
    all_goals constructor <;> linarith
  have h3 : -1 ≤ ang a b / Real.pi := by rw [le_div_iff₀ hp]; linarith
  have h4 : ang a b / Real.pi ≤ 1 := by rw [div_le_iff₀ hp]; linarith
  constructor <;> (unfold binPos; linarith)

/-- The reference's share of bin `k` at one pixel, from the pixel's place and magnitude. -/
theorem shares_apply {pl nm : FVec Ideal S16x1x512x512 .f32} {k : Fin 10} {r c : Fin 512} {a b : ℝ}
    (hp : pl (ix4 n 0 r c) = ((binPos a b : ℝ) : EReal)) (hn : nm (ix4 n 0 r c) = ((mag a b : ℝ) : EReal)) :
    shares pl nm (ix4 n k r c) = ((refShare a b k : ℝ) : EReal) := by
  obtain ⟨h1, h2⟩ := binPos_bounds a b
  have hm : subf (broadcastInDim S16x1x512x512 ![] bcast_S_S16x1x512x512 (constant S_ .f32 0x3F800000#32)) nm (ix4 n 0 r c)
      = ((1 - mag a b : ℝ) : EReal) := by
    pointwise
    rw [hn, EReal.coe_sub, EReal.coe_one]
  refine (congrArg₂ (· + ·) (pick_apply (floor_apply hp h1 h2) hn) (pick_apply (ceil_apply hp h1 h2) hm)).trans ?_
  rw [refShare, EReal.coe_add]

/-- The sum over axes 3 and 5 of an array of cells, at one cell. -/
theorem sum_cell (v : S16x10x64x8x64x8.Idx → EReal) (n : Fin 16) (k : Fin 10) (p q : Fin 64) :
    Ideal.hostReduceAdd reducesTo_S16x10x64x8x64x8_S16x10x64x64_d3_5 v 0 (ix4 n k p q)
      = ∑ i : Fin 8, ∑ j : Fin 8, v (ix6 n k p i q j) := by
  rw [Ideal.hostReduceAdd, zero_add, Finset.sum_filter_eq_sum_of_fiber _ (fun e : Fin 8 × Fin 8 => ix6 n k p e.1 q e.2)
    (fun _ _ e => Prod.ext (congrFun e 3) (congrFun e 5)) ?_ v, Fintype.sum_prod_type]
  intro i
  constructor
  · intro e
    refine ⟨(i 3, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨e, rfl⟩
    funext b
    apply Fin.ext
    match b with
    | ⟨0, _⟩ => rfl
    | ⟨1, _⟩ => rfl
    | ⟨2, _⟩ => rfl
    | ⟨3, _⟩ => rfl

/-- The mean over every cell. -/
def means (s : FVec Ideal S16x10x512x512 .f32) : FVec Ideal S16x10x64x64 .f32 :=
  Host.divf (Host.reduceAdd (shapeCast _ s shapeCasts_S16x10x512x512_S16x10x64x8x64x8) (constant S_ .f32 0x00000000#32)
      reducesTo_S16x10x64x8x64x8_S16x10x64x64_d3_5 h_S_)
    (broadcastInDim S16x10x64x64 ![] bcast_S_S16x10x64x64 (constant S_ .f32 0x42800000#32))

/-- The mean of a cell is the sum over its 64 pixels, over 64. -/
theorem means_apply {s : FVec Ideal S16x10x512x512 .f32} {k : Fin 10} {g : ℕ → ℕ → ℝ}
    (hs : ∀ r c : Fin 512, s (ix4 n k r c) = ((g r c : ℝ) : EReal)) (p q : Fin 64) :
    means s (ix4 n k p q) = ((pool g p q / 64 : ℝ) : EReal) := by
  unfold means
  pointwise
  rw [sum_cell, word_sixtyFour, Ideal.div_coe (by norm_num), pool, div_eq_mul_one_div (∑ i : Fin 8, _), EReal.coe_mul, coe_sum]
  simp only [coe_sum]
  congr 1
  pointwise
  simp only [hs, mul_comm _ 8]

/-- The gradients, stacked. -/
def stacked (gx gy : FVec Ideal S16x512x512 .f32) : FVec Ideal S16x2x512x512 .f32 :=
  concatenate S16x2x512x512 1 [⟨S16x1x512x512, broadcastInDim S16x1x512x512 ![0, 2, 3] bcast_S16x512x512_S16x1x512x512_0_2_3 gx⟩,
    ⟨S16x1x512x512, broadcastInDim S16x1x512x512 ![0, 2, 3] bcast_S16x512x512_S16x1x512x512_0_2_3 gy⟩]
    concatenates_S16x1x512x512_S16x1x512x512_S16x2x512x512_d1

/-- The magnitude of the stacked gradients. -/
def norms (g : FVec Ideal S16x2x512x512 .f32) : FVec Ideal S16x1x512x512 .f32 :=
  broadcastInDim S16x1x512x512 ![0, 2, 3] bcast_S16x512x512_S16x1x512x512_0_2_3
    (Host.sqrt (Host.reduceAdd (mulf g g) (constant S_ .f32 0x00000000#32) reducesTo_S16x2x512x512_S16x512x512_d1 h_S_))

variable {gx gy : FVec Ideal S16x512x512 .f32} {r c : Fin 512} {a b : ℝ}

/-- The magnitude at a pixel, of its two gradients. -/
theorem norms_apply (hx : gx (ix3 n r c) = (a : EReal)) (hy : gy (ix3 n r c) = (b : EReal)) :
    norms (stacked gx gy) (ix4 n 0 r c) = ((mag a b : ℝ) : EReal) := by
  unfold norms
  pointwise [stacked]
  have hs : ¬ a * a + b * b < 0 := by nlinarith
  simp [hx, hy, ← EReal.coe_mul, ← EReal.coe_add, hs, mag]

/-- The places of the stacked gradients. -/
def places (g : FVec Ideal S16x2x512x512 .f32) : FVec Ideal S16x1x512x512 .f32 :=
  broadcastInDim S16x1x512x512 ![0, 2, 3] bcast_S16x512x512_S16x1x512x512_0_2_3
    (place (shapeCast _ (extractStridedSlice S16x1x512x512 ![0, 0, 0, 0] g slices_S16x2x512x512_S16x1x512x512_0_0_0_0) shapeCasts_S16x1x512x512_S16x512x512)
      (shapeCast _ (extractStridedSlice S16x1x512x512 ![0, 1, 0, 0] g slices_S16x2x512x512_S16x1x512x512_0_1_0_0) shapeCasts_S16x1x512x512_S16x512x512))

/-- The place at a pixel, of its two gradients. -/
theorem places_apply (hx : gx (ix3 n r c) = (a : EReal)) (hy : gy (ix3 n r c) = (b : EReal)) :
    places (stacked gx gy) (ix4 n 0 r c) = ((binPos a b : ℝ) : EReal) := by
  unfold places
  pointwise
  refine place_apply ?_ ?_
  · pointwise [stacked]
    exact hx
  · pointwise [stacked]
    exact hy

/-! ## The whole result -/

/-- The reference's first gradient. -/
def gradHostX (x : FVec Ideal S16x1x512x512 .f32) : FVec Ideal S16x512x512 .f32 := nine (bordered x) matX

/-- The reference's second gradient. -/
def gradHostY (x : FVec Ideal S16x1x512x512 .f32) : FVec Ideal S16x512x512 .f32 := nine (bordered x) matY

/-- The reference's result, of its argument. -/
def reference (x : FVec Ideal S16x1x512x512 .f32) : FVec Ideal S16x10x64x64 .f32 :=
  means (shares (places (stacked (gradHostX x) (gradHostY x))) (norms (stacked (gradHostX x) (gradHostY x))))

section
variable {x : FVec Ideal S16x1x512x512 .f32} (hx : ∀ n r c, pixels x n r c = ((pix (pixels x) n r c : ℝ) : EReal))
include hx

/-- The reference's first gradient is the zero-bordered image's. -/
theorem gradHostX_apply (n : Fin 16) (r c : Fin 512) :
    gradHostX x (ix3 n r c) = ((sobelX (pix (pixels x) n) r c : ℝ) : EReal) := nineX_apply (bordered_apply x hx n) r c

/-- The reference's second gradient is the zero-bordered image's. -/
theorem gradHostY_apply (n : Fin 16) (r c : Fin 512) :
    gradHostY x (ix3 n r c) = ((sobelY (pix (pixels x) n) r c : ℝ) : EReal) := nineY_apply (bordered_apply x hx n) r c

/-- THE REFERENCE'S OUTPUT: the mean over every cell of the shares. -/
theorem reference_apply (n : Fin 16) (k : Fin 10) (p q : Fin 64) :
    reference x (ix4 n k p q) = ((hog (pix (pixels x) n) k p q : ℝ) : EReal) :=
  means_apply (fun r c => shares_apply (places_apply (gradHostX_apply hx n r c) (gradHostY_apply hx n r c))
    (norms_apply (gradHostX_apply hx n r c) (gradHostY_apply hx n r c))) p q

end

end Cert.Hog

end
-- ==== Proof.HostValue.lean ====
/- The reference's run, and what the precondition says of the images. Hand-written, untrusted. -/
module

public import proofs.«01_k».proof.Proof.HostPixel
public import proofs.«01_k».proof.Proof.Gen.ReferenceIdeal.Run
public import proofs.«01_k».proof.Proof.Gen.Pre_clear_of_edges
public import Idealize.ShloMosaic.Lib.WordArith

@[expose] public section

set_option maxRecDepth 16384

noncomputable section

namespace Cert.Hog

open Cert.ReferenceIdeal Cert.ReferenceIdeal.Gen Cert.ReferenceIdeal.Facts Idealize.ShloMosaic Idealize.ShloMosaic.TcCoe Idealize.SL.Sem
  Idealize.ShloMosaic.StableHlo

/-- The reference's run: its result is `reference` of its argument, which it keeps. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = reference (m ((c.tc : Thread nD τ).loc main_arg0))
      ∧ r.2.mem ((c.tc : Thread nD τ).loc main_arg0) = m ((c.tc : Thread nD τ).loc main_arg0) :=
  (θ_run defs _ _).mono (fun _ h c => ⟨(h c).1.trans (by rfl), (h c).2⟩) (Cert.ReferenceIdeal.Value.run (F := Ideal) m ρ)

/-- The precondition's test of one pixel, of the two gradients. -/
def tested (x : FVec Ideal S16x1x512x512 .f32) (gx gy : FVec Ideal S16x512x512 .f32) : IVec S16x512x512 1 :=
  andi (cmpf .olt (Host.absf (shapeCast S16x512x512 x shapeCasts_S16x1x512x512_S16x512x512)) (all 0x7F800000#32))
    (ori (ori (cmpf .oeq gx (all 0x00000000#32)) (cmpf .oeq gy (all 0x00000000#32)))
      (cmpf .oge (minimumf (subf (place gx gy) (Host.floor (place gx gy))) (subf (Host.ceil (place gx gy)) (place gx gy)))
        (all 0x33800000#32)))
where
  /-- A number, at every pixel. -/
  all (w : BitVec 32) : FVec Ideal S16x512x512 .f32 := broadcastInDim S16x512x512 ![] bcast_S_S16x512x512 (constant S_ .f32 w)

/-- The precondition is that test, of the reference's own gradients. -/
theorem fn_eq (x : FVec Ideal S16x1x512x512 .f32) :
    Cert.Pre_clear_of_edges.fn (F := Ideal) x = tested x (gradHostX x) (gradHostY x) := by rfl

/-- A pixel that passes the test is neither infinity. -/
theorem real_of_tested {x : FVec Ideal S16x1x512x512 .f32} {gx gy : FVec Ideal S16x512x512 .f32} {n : Fin 16} {r c : Fin 512}
    (h : tested x gx gy (ix3 n r c) = 1#1) : pixels x n r c ≠ ⊤ ∧ pixels x n r c ≠ ⊥ := by
  unfold tested at h
  revert h
  pointwise [tested.all]
  rw [word_top, WordArith.ori_ofBool, WordArith.ori_ofBool, WordArith.andi_ofBool, WordArith.ofBool_eq_one_iff]
  intro h
  simp only [Bool.and_eq_true, decide_eq_true_eq] at h
  have hlt : max (x (ix4 n 0 r c)) (-x (ix4 n 0 r c)) < ⊤ := h.1
  refine ⟨fun e : x (ix4 n 0 r c) = ⊤ => ?_, fun e : x (ix4 n 0 r c) = ⊥ => ?_⟩ <;> simp [e] at hlt

/-- A pixel that passes the test has a gradient that is not near a bin's edge. -/
theorem clear_of_tested {x : FVec Ideal S16x1x512x512 .f32} {gx gy : FVec Ideal S16x512x512 .f32} {n : Fin 16} {r c : Fin 512} {a b : ℝ}
    (hx : gx (ix3 n r c) = (a : EReal)) (hy : gy (ix3 n r c) = (b : EReal)) (h : tested x gx gy (ix3 n r c) = 1#1) : Clear a b := by
  have hp := place_apply hx hy
  unfold tested at h
  revert h
  pointwise [tested.all]
  rw [hp, hx, hy, word_gap, WordArith.ori_ofBool, WordArith.ori_ofBool, WordArith.andi_ofBool, WordArith.ofBool_eq_one_iff]
  intro h
  simp only [Bool.and_eq_true, Bool.or_eq_true, decide_eq_true_eq] at h
  rcases h.2 with (h | h) | h
  · exact Or.inl (by exact_mod_cast h)
  · exact Or.inr (Or.inl (by exact_mod_cast h))
  · obtain ⟨h1, h2⟩ := le_min_iff.1 h
    rw [Ideal.liftRound_coe, ← EReal.coe_sub, EReal.coe_le_coe_iff] at h1 h2
    exact Or.inr (Or.inr (le_min h1 h2))

/-- What the precondition says: the images are real, and no gradient is near a bin's edge. -/
theorem good_of_pre {x : FVec Ideal S16x1x512x512 .f32} (h : Cert.Pre_clear_of_edges.fn (F := Ideal) x = fun _ => 1#1) :
    Good (pixels x) := by
  rw [fn_eq] at h
  have hr : ∀ n r c, pixels x n r c = ((pix (pixels x) n r c : ℝ) : EReal) := fun n r c =>
    pix_eq (real_of_tested (congrFun h (ix3 n r c))).1 (real_of_tested (congrFun h (ix3 n r c))).2
  exact ⟨hr, fun n hn r hr' c hc => clear_of_tested (gradHostX_apply hr ⟨n, hn⟩ ⟨r, hr'⟩ ⟨c, hc⟩)
    (gradHostY_apply hr ⟨n, hn⟩ ⟨r, hr'⟩ ⟨c, hc⟩) (congrFun h (ix3 ⟨n, hn⟩ ⟨r, hr'⟩ ⟨c, hc⟩))⟩

end Cert.Hog

end
-- ==== Proof.lean ====
/- The proof of the certificate's claim: the frames of the three programs, the kernel kept as it is, and the kernel's
   result equal to the reference's on images clear of the bins' edges. Hand-written, untrusted. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_clear_of_edges
public import proofs.«01_k».proof.Proof.KernelValue
public import proofs.«01_k».proof.Proof.HostValue
public import Idealize.ShloMosaic.Adequacy
public import Idealize.ShloMosaic.Init

@[expose] public section

set_option maxRecDepth 16384

noncomputable section

namespace Cert.Proof

open Idealize.ShloMosaic Idealize.SL.Sem

/-- The reference runs to its end from every memory, keeps its argument, and holds no semaphore. -/
theorem frame_reference : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On images clear of the bins' edges, the kernel and the reference run and end with equal results: each is, in every
    bin and cell, the mean of the reference's shares over the cell. -/
theorem equal_results : algebraic_KernelIdeal_ReferenceIdeal_pre_clear_of_edges := by
  intro m g m' g' hpre harg
  have hg : ∀ c, Hog.Good (Hog.images m c) := fun c => Hog.good_of_pre (hpre c)
  refine ⟨fun c => Hog.result (Hog.images m c), ?_, ?_⟩
  · exact (θ_run _ _ _).mono (fun r h c => ⟨(h c).1.trans (Hog.kernel_array m c (hg c)), (h c).2⟩)
      (Cert.KernelIdeal.Value.run_blocks m g)
  · refine (θ_run _ _ _).mono (fun r h c => ⟨(h c).1.trans ?_, (h c).2⟩) (Hog.reference_run m' g')
    rw [harg c]
    funext y
    obtain ⟨n, k, p, q, rfl⟩ : ∃ (n : Fin 16) (k : Fin 10) (p q : Fin 64), y = ix4 n k p q := ⟨y 0, y 1, y 2, y 3, by blk_ext⟩
    exact Hog.reference_apply (hg c).real n k p q

/-- Everything the certificate claims. -/
theorem claim : Cert.Claim :=
  ⟨Cert.Kernel.Gen.facts, Cert.KernelIdeal.Gen.facts, Cert.ReferenceIdeal.Gen.facts, Cert.Pre_clear_of_edges.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, equal_results⟩

end Cert.Proof

end
